-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def preserves_Kernel_KernelIdeal : Prop :=
  True

def preserves_Reference_ReferenceIdeal : Prop :=
  IdealRules.named_const.Statement Cert.ReferenceIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S6x1024x6912 : Shape := ⟨3, ![6, 1024, 6912]⟩
abbrev S6x1024x54 : Shape := ⟨3, ![6, 1024, 54]⟩
abbrev S2048x6912 : Shape := ⟨2, ![2048, 6912]⟩
abbrev S16x54 : Shape := ⟨2, ![16, 54]⟩
abbrev S6144x6912 : Shape := ⟨2, ![6144, 6912]⟩
abbrev S6144x54 : Shape := ⟨2, ![6144, 54]⟩
abbrev S6144x2048 : Shape := ⟨2, ![6144, 2048]⟩
abbrev S6144x16 : Shape := ⟨2, ![6144, 16]⟩
abbrev S512x6912 : Shape := ⟨2, ![512, 6912]⟩
abbrev S512x54 : Shape := ⟨2, ![512, 54]⟩
abbrev S256x6912 : Shape := ⟨2, ![256, 6912]⟩
abbrev S512x256 : Shape := ⟨2, ![512, 256]⟩
abbrev S512x16 : Shape := ⟨2, ![512, 16]⟩
abbrev S512x1 : Shape := ⟨2, ![512, 1]⟩
abbrev S512x128 : Shape := ⟨2, ![512, 128]⟩
abbrev S1x1 : Shape := ⟨2, ![1, 1]⟩
abbrev S128x128 : Shape := ⟨2, ![128, 128]⟩
abbrev S512 : Shape := ⟨1, ![512]⟩
abbrev S1x246 : Shape := ⟨2, ![1, 246]⟩
abbrev S512x246 : Shape := ⟨2, ![512, 246]⟩

abbrev nBuf : Space → Nat
  | .hbm => 10
  | .vmem => 15
  | .smem => 2
  | _ => 0

abbrev bufTy : (tb : Table) → Fin (tcTables nBuf tb) → BufTy
  | .hbm, ⟨0, _⟩ => ⟨S6x1024x6912, .fp8e4m3⟩
  | .hbm, ⟨1, _⟩ => ⟨S6x1024x54, .f32⟩
  | .hbm, ⟨2, _⟩ => ⟨S2048x6912, .fp8e4m3⟩
  | .hbm, ⟨3, _⟩ => ⟨S16x54, .f32⟩
  | .hbm, ⟨4, _⟩ => ⟨S2048x6912, .fp8e4m3⟩
  | .hbm, ⟨5, _⟩ => ⟨S16x54, .f32⟩
  | .hbm, ⟨6, _⟩ => ⟨S6144x6912, .fp8e4m3⟩
  | .hbm, ⟨7, _⟩ => ⟨S6144x54, .f32⟩
  | .hbm, ⟨8, _⟩ => ⟨S6144x2048, .fp8e4m3⟩
  | .hbm, ⟨9, _⟩ => ⟨S6144x16, .f32⟩
  | .local _ .vmem, ⟨0, _⟩ => ⟨S512x6912, .fp8e4m3⟩
  | .local _ .vmem, ⟨1, _⟩ => ⟨S512x6912, .fp8e4m3⟩
  | .local _ .vmem, ⟨2, _⟩ => ⟨S512x54, .f32⟩
  | .local _ .vmem, ⟨3, _⟩ => ⟨S512x54, .f32⟩
  | .local _ .vmem, ⟨4, _⟩ => ⟨S256x6912, .fp8e4m3⟩
  | .local _ .vmem, ⟨5, _⟩ => ⟨S256x6912, .fp8e4m3⟩
  | .local _ .vmem, ⟨6, _⟩ => ⟨S256x6912, .fp8e4m3⟩
  | .local _ .vmem, ⟨7, _⟩ => ⟨S256x6912, .fp8e4m3⟩
  | .local _ .vmem, ⟨8, _⟩ => ⟨S512x256, .fp8e4m3⟩
  | .local _ .vmem, ⟨9, _⟩ => ⟨S512x256, .fp8e4m3⟩
  | .local _ .vmem, ⟨10, _⟩ => ⟨S512x16, .f32⟩
  | .local _ .vmem, ⟨11, _⟩ => ⟨S512x16, .f32⟩
  | .local _ .vmem, ⟨12, _⟩ => ⟨S512x6912, .bf16⟩
  | .local _ .vmem, ⟨13, _⟩ => ⟨S256x6912, .bf16⟩
  | .local _ .vmem, ⟨14, _⟩ => ⟨S256x6912, .bf16⟩
  | .local _ .smem, ⟨0, _⟩ => ⟨S16x54, .f32⟩
  | .local _ .smem, ⟨1, _⟩ => ⟨S16x54, .f32⟩
  | _, _ => ⟨S6x1024x6912, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![12, 8], ![false, false]⟩

def k0_off1 (i : grid0.Coords) (c0_i32_1 : BitVec 32) : Fin 2 → Nat :=
  let arg1 : BitVec 32 := BitVec.ofNat 32 (i 1).val
  let c2_i32 : BitVec 32 := 2#32
  let v3 : BitVec 32 := Scalar.muli arg1 c2_i32
  let v4 : BitVec 32 := Scalar.addi v3 c0_i32_1
  let v5 : Index := Scalar.indexCast v4
  let c0 : Index := 0#32
  ![v5.toNat, 0]
def k0_off2 (i : grid0.Coords) (c0_i32_7 : BitVec 32) : Fin 2 → Nat :=
  let arg1 : BitVec 32 := BitVec.ofNat 32 (i 1).val
  let c2_i32_6 : BitVec 32 := 2#32
  let v15 : BitVec 32 := Scalar.muli arg1 c2_i32_6
  let v16 : BitVec 32 := Scalar.addi v15 c0_i32_7
  let v17 : Index := Scalar.indexCast v16
  let c1 : Index := 1#32
  ![v17.toNat, 1]
def k0_off3 (i : grid0.Coords) (c0_i32_12 : BitVec 32) : Fin 2 → Nat :=
  let arg1 : BitVec 32 := BitVec.ofNat 32 (i 1).val
  let c2_i32_11 : BitVec 32 := 2#32
  let v27 : BitVec 32 := Scalar.muli arg1 c2_i32_11
  let v28 : BitVec 32 := Scalar.addi v27 c0_i32_12
  let v29 : Index := Scalar.indexCast v28
  let c2 : Index := 2#32
  ![v29.toNat, 2]
def k0_off4 (i : grid0.Coords) (c0_i32_17 : BitVec 32) : Fin 2 → Nat :=
  let arg1 : BitVec 32 := BitVec.ofNat 32 (i 1).val
  let c2_i32_16 : BitVec 32 := 2#32
  let v39 : BitVec 32 := Scalar.muli arg1 c2_i32_16
  let v40 : BitVec 32 := Scalar.addi v39 c0_i32_17
  let v41 : Index := Scalar.indexCast v40
  let c3 : Index := 3#32
  ![v41.toNat, 3]
def k0_off5 (i : grid0.Coords) (c0_i32_22 : BitVec 32) : Fin 2 → Nat :=
  let arg1 : BitVec 32 := BitVec.ofNat 32 (i 1).val
  let c2_i32_21 : BitVec 32 := 2#32
  let v51 : BitVec 32 := Scalar.muli arg1 c2_i32_21
  let v52 : BitVec 32 := Scalar.addi v51 c0_i32_22
  let v53 : Index := Scalar.indexCast v52
  let c4 : Index := 4#32
  ![v53.toNat, 4]
def k0_off6 (i : grid0.Coords) (c0_i32_27 : BitVec 32) : Fin 2 → Nat :=
  let arg1 : BitVec 32 := BitVec.ofNat 32 (i 1).val
  let c2_i32_26 : BitVec 32 := 2#32
  let v63 : BitVec 32 := Scalar.muli arg1 c2_i32_26
  let v64 : BitVec 32 := Scalar.addi v63 c0_i32_27
  let v65 : Index := Scalar.indexCast v64
  let c5 : Index := 5#32
  ![v65.toNat, 5]
def k0_off7 (i : grid0.Coords) (c0_i32_32 : BitVec 32) : Fin 2 → Nat :=
  let arg1 : BitVec 32 := BitVec.ofNat 32 (i 1).val
  let c2_i32_31 : BitVec 32 := 2#32
  let v75 : BitVec 32 := Scalar.muli arg1 c2_i32_31
  let v76 : BitVec 32 := Scalar.addi v75 c0_i32_32
  let v77 : Index := Scalar.indexCast v76
  let c6 : Index := 6#32
  ![v77.toNat, 6]
def k0_off8 (i : grid0.Coords) (c0_i32_37 : BitVec 32) : Fin 2 → Nat :=
  let arg1 : BitVec 32 := BitVec.ofNat 32 (i 1).val
  let c2_i32_36 : BitVec 32 := 2#32
  let v87 : BitVec 32 := Scalar.muli arg1 c2_i32_36
  let v88 : BitVec 32 := Scalar.addi v87 c0_i32_37
  let v89 : Index := Scalar.indexCast v88
  let c7 : Index := 7#32
  ![v89.toNat, 7]
def k0_off9 (i : grid0.Coords) (c0_i32_42 : BitVec 32) : Fin 2 → Nat :=
  let arg1 : BitVec 32 := BitVec.ofNat 32 (i 1).val
  let c2_i32_41 : BitVec 32 := 2#32
  let v99 : BitVec 32 := Scalar.muli arg1 c2_i32_41
  let v100 : BitVec 32 := Scalar.addi v99 c0_i32_42
  let v101 : Index := Scalar.indexCast v100
  let c8 : Index := 8#32
  ![v101.toNat, 8]
def k0_off10 (i : grid0.Coords) (c0_i32_47 : BitVec 32) : Fin 2 → Nat :=
  let arg1 : BitVec 32 := BitVec.ofNat 32 (i 1).val
  let c2_i32_46 : BitVec 32 := 2#32
  let v111 : BitVec 32 := Scalar.muli arg1 c2_i32_46
  let v112 : BitVec 32 := Scalar.addi v111 c0_i32_47
  let v113 : Index := Scalar.indexCast v112
  let c9 : Index := 9#32
  ![v113.toNat, 9]
def k0_off11 (i : grid0.Coords) (c0_i32_52 : BitVec 32) : Fin 2 → Nat :=
  let arg1 : BitVec 32 := BitVec.ofNat 32 (i 1).val
  let c2_i32_51 : BitVec 32 := 2#32
  let v123 : BitVec 32 := Scalar.muli arg1 c2_i32_51
  let v124 : BitVec 32 := Scalar.addi v123 c0_i32_52
  let v125 : Index := Scalar.indexCast v124
  let c10 : Index := 10#32
  ![v125.toNat, 10]
def k0_off12 (i : grid0.Coords) (c0_i32_57 : BitVec 32) : Fin 2 → Nat :=
  let arg1 : BitVec 32 := BitVec.ofNat 32 (i 1).val
  let c2_i32_56 : BitVec 32 := 2#32
  let v135 : BitVec 32 := Scalar.muli arg1 c2_i32_56
  let v136 : BitVec 32 := Scalar.addi v135 c0_i32_57
  let v137 : Index := Scalar.indexCast v136
  let c11 : Index := 11#32
  ![v137.toNat, 11]
def k0_off13 (i : grid0.Coords) (c0_i32_62 : BitVec 32) : Fin 2 → Nat :=
  let arg1 : BitVec 32 := BitVec.ofNat 32 (i 1).val
  let c2_i32_61 : BitVec 32 := 2#32
  let v147 : BitVec 32 := Scalar.muli arg1 c2_i32_61
  let v148 : BitVec 32 := Scalar.addi v147 c0_i32_62
  let v149 : Index := Scalar.indexCast v148
  let c12 : Index := 12#32
  ![v149.toNat, 12]
def k0_off14 (i : grid0.Coords) (c0_i32_67 : BitVec 32) : Fin 2 → Nat :=
  let arg1 : BitVec 32 := BitVec.ofNat 32 (i 1).val
  let c2_i32_66 : BitVec 32 := 2#32
  let v159 : BitVec 32 := Scalar.muli arg1 c2_i32_66
  let v160 : BitVec 32 := Scalar.addi v159 c0_i32_67
  let v161 : Index := Scalar.indexCast v160
  let c13 : Index := 13#32
  ![v161.toNat, 13]
def k0_off15 (i : grid0.Coords) (c0_i32_72 : BitVec 32) : Fin 2 → Nat :=
  let arg1 : BitVec 32 := BitVec.ofNat 32 (i 1).val
  let c2_i32_71 : BitVec 32 := 2#32
  let v171 : BitVec 32 := Scalar.muli arg1 c2_i32_71
  let v172 : BitVec 32 := Scalar.addi v171 c0_i32_72
  let v173 : Index := Scalar.indexCast v172
  let c14 : Index := 14#32
  ![v173.toNat, 14]
def k0_off16 (i : grid0.Coords) (c0_i32_77 : BitVec 32) : Fin 2 → Nat :=
  let arg1 : BitVec 32 := BitVec.ofNat 32 (i 1).val
  let c2_i32_76 : BitVec 32 := 2#32
  let v183 : BitVec 32 := Scalar.muli arg1 c2_i32_76
  let v184 : BitVec 32 := Scalar.addi v183 c0_i32_77
  let v185 : Index := Scalar.indexCast v184
  let c15 : Index := 15#32
  ![v185.toNat, 15]
def k0_off17 (i : grid0.Coords) (c0_i32_82 : BitVec 32) : Fin 2 → Nat :=
  let arg1 : BitVec 32 := BitVec.ofNat 32 (i 1).val
  let c2_i32_81 : BitVec 32 := 2#32
  let v195 : BitVec 32 := Scalar.muli arg1 c2_i32_81
  let v196 : BitVec 32 := Scalar.addi v195 c0_i32_82
  let v197 : Index := Scalar.indexCast v196
  let c16 : Index := 16#32
  ![v197.toNat, 16]
def k0_off18 (i : grid0.Coords) (c0_i32_87 : BitVec 32) : Fin 2 → Nat :=
  let arg1 : BitVec 32 := BitVec.ofNat 32 (i 1).val
  let c2_i32_86 : BitVec 32 := 2#32
  let v207 : BitVec 32 := Scalar.muli arg1 c2_i32_86
  let v208 : BitVec 32 := Scalar.addi v207 c0_i32_87
  let v209 : Index := Scalar.indexCast v208
  let c17 : Index := 17#32
  ![v209.toNat, 17]
def k0_off19 (i : grid0.Coords) (c0_i32_92 : BitVec 32) : Fin 2 → Nat :=
  let arg1 : BitVec 32 := BitVec.ofNat 32 (i 1).val
  let c2_i32_91 : BitVec 32 := 2#32
  let v219 : BitVec 32 := Scalar.muli arg1 c2_i32_91
  let v220 : BitVec 32 := Scalar.addi v219 c0_i32_92
  let v221 : Index := Scalar.indexCast v220
  let c18 : Index := 18#32
  ![v221.toNat, 18]
def k0_off20 (i : grid0.Coords) (c0_i32_97 : BitVec 32) : Fin 2 → Nat :=
  let arg1 : BitVec 32 := BitVec.ofNat 32 (i 1).val
  let c2_i32_96 : BitVec 32 := 2#32
  let v231 : BitVec 32 := Scalar.muli arg1 c2_i32_96
  let v232 : BitVec 32 := Scalar.addi v231 c0_i32_97
  let v233 : Index := Scalar.indexCast v232
  let c19 : Index := 19#32
  ![v233.toNat, 19]
def k0_off21 (i : grid0.Coords) (c0_i32_102 : BitVec 32) : Fin 2 → Nat :=
  let arg1 : BitVec 32 := BitVec.ofNat 32 (i 1).val
  let c2_i32_101 : BitVec 32 := 2#32
  let v243 : BitVec 32 := Scalar.muli arg1 c2_i32_101
  let v244 : BitVec 32 := Scalar.addi v243 c0_i32_102
  let v245 : Index := Scalar.indexCast v244
  let c20 : Index := 20#32
  ![v245.toNat, 20]
def k0_off22 (i : grid0.Coords) (c0_i32_107 : BitVec 32) : Fin 2 → Nat :=
  let arg1 : BitVec 32 := BitVec.ofNat 32 (i 1).val
  let c2_i32_106 : BitVec 32 := 2#32
  let v255 : BitVec 32 := Scalar.muli arg1 c2_i32_106
  let v256 : BitVec 32 := Scalar.addi v255 c0_i32_107
  let v257 : Index := Scalar.indexCast v256
  let c21 : Index := 21#32
  ![v257.toNat, 21]
def k0_off23 (i : grid0.Coords) (c0_i32_112 : BitVec 32) : Fin 2 → Nat :=
  let arg1 : BitVec 32 := BitVec.ofNat 32 (i 1).val
  let c2_i32_111 : BitVec 32 := 2#32
  let v267 : BitVec 32 := Scalar.muli arg1 c2_i32_111
  let v268 : BitVec 32 := Scalar.addi v267 c0_i32_112
  let v269 : Index := Scalar.indexCast v268
  let c22 : Index := 22#32
  ![v269.toNat, 22]
def k0_off24 (i : grid0.Coords) (c0_i32_117 : BitVec 32) : Fin 2 → Nat :=
  let arg1 : BitVec 32 := BitVec.ofNat 32 (i 1).val
  let c2_i32_116 : BitVec 32 := 2#32
  let v279 : BitVec 32 := Scalar.muli arg1 c2_i32_116
  let v280 : BitVec 32 := Scalar.addi v279 c0_i32_117
  let v281 : Index := Scalar.indexCast v280
  let c23 : Index := 23#32
  ![v281.toNat, 23]
def k0_off25 (i : grid0.Coords) (c0_i32_122 : BitVec 32) : Fin 2 → Nat :=
  let arg1 : BitVec 32 := BitVec.ofNat 32 (i 1).val
  let c2_i32_121 : BitVec 32 := 2#32
  let v291 : BitVec 32 := Scalar.muli arg1 c2_i32_121
  let v292 : BitVec 32 := Scalar.addi v291 c0_i32_122
  let v293 : Index := Scalar.indexCast v292
  let c24 : Index := 24#32
  ![v293.toNat, 24]
def k0_off26 (i : grid0.Coords) (c0_i32_127 : BitVec 32) : Fin 2 → Nat :=
  let arg1 : BitVec 32 := BitVec.ofNat 32 (i 1).val
  let c2_i32_126 : BitVec 32 := 2#32
  let v303 : BitVec 32 := Scalar.muli arg1 c2_i32_126
  let v304 : BitVec 32 := Scalar.addi v303 c0_i32_127
  let v305 : Index := Scalar.indexCast v304
  let c25 : Index := 25#32
  ![v305.toNat, 25]
def k0_off27 (i : grid0.Coords) (c0_i32_132 : BitVec 32) : Fin 2 → Nat :=
  let arg1 : BitVec 32 := BitVec.ofNat 32 (i 1).val
  let c2_i32_131 : BitVec 32 := 2#32
  let v315 : BitVec 32 := Scalar.muli arg1 c2_i32_131
  let v316 : BitVec 32 := Scalar.addi v315 c0_i32_132
  let v317 : Index := Scalar.indexCast v316
  let c26 : Index := 26#32
  ![v317.toNat, 26]
def k0_off28 (i : grid0.Coords) (c0_i32_137 : BitVec 32) : Fin 2 → Nat :=
  let arg1 : BitVec 32 := BitVec.ofNat 32 (i 1).val
  let c2_i32_136 : BitVec 32 := 2#32
  let v327 : BitVec 32 := Scalar.muli arg1 c2_i32_136
  let v328 : BitVec 32 := Scalar.addi v327 c0_i32_137
  let v329 : Index := Scalar.indexCast v328
  let c27 : Index := 27#32
  ![v329.toNat, 27]
def k0_off29 (i : grid0.Coords) (c0_i32_142 : BitVec 32) : Fin 2 → Nat :=
  let arg1 : BitVec 32 := BitVec.ofNat 32 (i 1).val
  let c2_i32_141 : BitVec 32 := 2#32
  let v339 : BitVec 32 := Scalar.muli arg1 c2_i32_141
  let v340 : BitVec 32 := Scalar.addi v339 c0_i32_142
  let v341 : Index := Scalar.indexCast v340
  let c28 : Index := 28#32
  ![v341.toNat, 28]
def k0_off30 (i : grid0.Coords) (c0_i32_147 : BitVec 32) : Fin 2 → Nat :=
  let arg1 : BitVec 32 := BitVec.ofNat 32 (i 1).val
  let c2_i32_146 : BitVec 32 := 2#32
  let v351 : BitVec 32 := Scalar.muli arg1 c2_i32_146
  let v352 : BitVec 32 := Scalar.addi v351 c0_i32_147
  let v353 : Index := Scalar.indexCast v352
  let c29 : Index := 29#32
  ![v353.toNat, 29]
def k0_off31 (i : grid0.Coords) (c0_i32_152 : BitVec 32) : Fin 2 → Nat :=
  let arg1 : BitVec 32 := BitVec.ofNat 32 (i 1).val
  let c2_i32_151 : BitVec 32 := 2#32
  let v363 : BitVec 32 := Scalar.muli arg1 c2_i32_151
  let v364 : BitVec 32 := Scalar.addi v363 c0_i32_152
  let v365 : Index := Scalar.indexCast v364
  let c30 : Index := 30#32
  ![v365.toNat, 30]
def k0_off32 (i : grid0.Coords) (c0_i32_157 : BitVec 32) : Fin 2 → Nat :=
  let arg1 : BitVec 32 := BitVec.ofNat 32 (i 1).val
  let c2_i32_156 : BitVec 32 := 2#32
  let v375 : BitVec 32 := Scalar.muli arg1 c2_i32_156
  let v376 : BitVec 32 := Scalar.addi v375 c0_i32_157
  let v377 : Index := Scalar.indexCast v376
  let c31 : Index := 31#32
  ![v377.toNat, 31]
def k0_off33 (i : grid0.Coords) (c0_i32_162 : BitVec 32) : Fin 2 → Nat :=
  let arg1 : BitVec 32 := BitVec.ofNat 32 (i 1).val
  let c2_i32_161 : BitVec 32 := 2#32
  let v387 : BitVec 32 := Scalar.muli arg1 c2_i32_161
  let v388 : BitVec 32 := Scalar.addi v387 c0_i32_162
  let v389 : Index := Scalar.indexCast v388
  let c32 : Index := 32#32
  ![v389.toNat, 32]
def k0_off34 (i : grid0.Coords) (c0_i32_167 : BitVec 32) : Fin 2 → Nat :=
  let arg1 : BitVec 32 := BitVec.ofNat 32 (i 1).val
  let c2_i32_166 : BitVec 32 := 2#32
  let v399 : BitVec 32 := Scalar.muli arg1 c2_i32_166
  let v400 : BitVec 32 := Scalar.addi v399 c0_i32_167
  let v401 : Index := Scalar.indexCast v400
  let c33 : Index := 33#32
  ![v401.toNat, 33]
def k0_off35 (i : grid0.Coords) (c0_i32_172 : BitVec 32) : Fin 2 → Nat :=
  let arg1 : BitVec 32 := BitVec.ofNat 32 (i 1).val
  let c2_i32_171 : BitVec 32 := 2#32
  let v411 : BitVec 32 := Scalar.muli arg1 c2_i32_171
  let v412 : BitVec 32 := Scalar.addi v411 c0_i32_172
  let v413 : Index := Scalar.indexCast v412
  let c34 : Index := 34#32
  ![v413.toNat, 34]
def k0_off36 (i : grid0.Coords) (c0_i32_177 : BitVec 32) : Fin 2 → Nat :=
  let arg1 : BitVec 32 := BitVec.ofNat 32 (i 1).val
  let c2_i32_176 : BitVec 32 := 2#32
  let v423 : BitVec 32 := Scalar.muli arg1 c2_i32_176
  let v424 : BitVec 32 := Scalar.addi v423 c0_i32_177
  let v425 : Index := Scalar.indexCast v424
  let c35 : Index := 35#32
  ![v425.toNat, 35]
def k0_off37 (i : grid0.Coords) (c0_i32_182 : BitVec 32) : Fin 2 → Nat :=
  let arg1 : BitVec 32 := BitVec.ofNat 32 (i 1).val
  let c2_i32_181 : BitVec 32 := 2#32
  let v435 : BitVec 32 := Scalar.muli arg1 c2_i32_181
  let v436 : BitVec 32 := Scalar.addi v435 c0_i32_182
  let v437 : Index := Scalar.indexCast v436
  let c36 : Index := 36#32
  ![v437.toNat, 36]
def k0_off38 (i : grid0.Coords) (c0_i32_187 : BitVec 32) : Fin 2 → Nat :=
  let arg1 : BitVec 32 := BitVec.ofNat 32 (i 1).val
  let c2_i32_186 : BitVec 32 := 2#32
  let v447 : BitVec 32 := Scalar.muli arg1 c2_i32_186
  let v448 : BitVec 32 := Scalar.addi v447 c0_i32_187
  let v449 : Index := Scalar.indexCast v448
  let c37 : Index := 37#32
  ![v449.toNat, 37]
def k0_off39 (i : grid0.Coords) (c0_i32_192 : BitVec 32) : Fin 2 → Nat :=
  let arg1 : BitVec 32 := BitVec.ofNat 32 (i 1).val
  let c2_i32_191 : BitVec 32 := 2#32
  let v459 : BitVec 32 := Scalar.muli arg1 c2_i32_191
  let v460 : BitVec 32 := Scalar.addi v459 c0_i32_192
  let v461 : Index := Scalar.indexCast v460
  let c38 : Index := 38#32
  ![v461.toNat, 38]
def k0_off40 (i : grid0.Coords) (c0_i32_197 : BitVec 32) : Fin 2 → Nat :=
  let arg1 : BitVec 32 := BitVec.ofNat 32 (i 1).val
  let c2_i32_196 : BitVec 32 := 2#32
  let v471 : BitVec 32 := Scalar.muli arg1 c2_i32_196
  let v472 : BitVec 32 := Scalar.addi v471 c0_i32_197
  let v473 : Index := Scalar.indexCast v472
  let c39 : Index := 39#32
  ![v473.toNat, 39]
def k0_off41 (i : grid0.Coords) (c0_i32_202 : BitVec 32) : Fin 2 → Nat :=
  let arg1 : BitVec 32 := BitVec.ofNat 32 (i 1).val
  let c2_i32_201 : BitVec 32 := 2#32
  let v483 : BitVec 32 := Scalar.muli arg1 c2_i32_201
  let v484 : BitVec 32 := Scalar.addi v483 c0_i32_202
  let v485 : Index := Scalar.indexCast v484
  let c40 : Index := 40#32
  ![v485.toNat, 40]
def k0_off42 (i : grid0.Coords) (c0_i32_207 : BitVec 32) : Fin 2 → Nat :=
  let arg1 : BitVec 32 := BitVec.ofNat 32 (i 1).val
  let c2_i32_206 : BitVec 32 := 2#32
  let v495 : BitVec 32 := Scalar.muli arg1 c2_i32_206
  let v496 : BitVec 32 := Scalar.addi v495 c0_i32_207
  let v497 : Index := Scalar.indexCast v496
  let c41 : Index := 41#32
  ![v497.toNat, 41]
def k0_off43 (i : grid0.Coords) (c0_i32_212 : BitVec 32) : Fin 2 → Nat :=
  let arg1 : BitVec 32 := BitVec.ofNat 32 (i 1).val
  let c2_i32_211 : BitVec 32 := 2#32
  let v507 : BitVec 32 := Scalar.muli arg1 c2_i32_211
  let v508 : BitVec 32 := Scalar.addi v507 c0_i32_212
  let v509 : Index := Scalar.indexCast v508
  let c42 : Index := 42#32
  ![v509.toNat, 42]
def k0_off44 (i : grid0.Coords) (c0_i32_217 : BitVec 32) : Fin 2 → Nat :=
  let arg1 : BitVec 32 := BitVec.ofNat 32 (i 1).val
  let c2_i32_216 : BitVec 32 := 2#32
  let v519 : BitVec 32 := Scalar.muli arg1 c2_i32_216
  let v520 : BitVec 32 := Scalar.addi v519 c0_i32_217
  let v521 : Index := Scalar.indexCast v520
  let c43 : Index := 43#32
  ![v521.toNat, 43]
def k0_off45 (i : grid0.Coords) (c0_i32_222 : BitVec 32) : Fin 2 → Nat :=
  let arg1 : BitVec 32 := BitVec.ofNat 32 (i 1).val
  let c2_i32_221 : BitVec 32 := 2#32
  let v531 : BitVec 32 := Scalar.muli arg1 c2_i32_221
  let v532 : BitVec 32 := Scalar.addi v531 c0_i32_222
  let v533 : Index := Scalar.indexCast v532
  let c44 : Index := 44#32
  ![v533.toNat, 44]
def k0_off46 (i : grid0.Coords) (c0_i32_227 : BitVec 32) : Fin 2 → Nat :=
  let arg1 : BitVec 32 := BitVec.ofNat 32 (i 1).val
  let c2_i32_226 : BitVec 32 := 2#32
  let v543 : BitVec 32 := Scalar.muli arg1 c2_i32_226
  let v544 : BitVec 32 := Scalar.addi v543 c0_i32_227
  let v545 : Index := Scalar.indexCast v544
  let c45 : Index := 45#32
  ![v545.toNat, 45]
def k0_off47 (i : grid0.Coords) (c0_i32_232 : BitVec 32) : Fin 2 → Nat :=
  let arg1 : BitVec 32 := BitVec.ofNat 32 (i 1).val
  let c2_i32_231 : BitVec 32 := 2#32
  let v555 : BitVec 32 := Scalar.muli arg1 c2_i32_231
  let v556 : BitVec 32 := Scalar.addi v555 c0_i32_232
  let v557 : Index := Scalar.indexCast v556
  let c46 : Index := 46#32
  ![v557.toNat, 46]
def k0_off48 (i : grid0.Coords) (c0_i32_237 : BitVec 32) : Fin 2 → Nat :=
  let arg1 : BitVec 32 := BitVec.ofNat 32 (i 1).val
  let c2_i32_236 : BitVec 32 := 2#32
  let v567 : BitVec 32 := Scalar.muli arg1 c2_i32_236
  let v568 : BitVec 32 := Scalar.addi v567 c0_i32_237
  let v569 : Index := Scalar.indexCast v568
  let c47 : Index := 47#32
  ![v569.toNat, 47]
def k0_off49 (i : grid0.Coords) (c0_i32_242 : BitVec 32) : Fin 2 → Nat :=
  let arg1 : BitVec 32 := BitVec.ofNat 32 (i 1).val
  let c2_i32_241 : BitVec 32 := 2#32
  let v579 : BitVec 32 := Scalar.muli arg1 c2_i32_241
  let v580 : BitVec 32 := Scalar.addi v579 c0_i32_242
  let v581 : Index := Scalar.indexCast v580
  let c48 : Index := 48#32
  ![v581.toNat, 48]
def k0_off50 (i : grid0.Coords) (c0_i32_247 : BitVec 32) : Fin 2 → Nat :=
  let arg1 : BitVec 32 := BitVec.ofNat 32 (i 1).val
  let c2_i32_246 : BitVec 32 := 2#32
  let v591 : BitVec 32 := Scalar.muli arg1 c2_i32_246
  let v592 : BitVec 32 := Scalar.addi v591 c0_i32_247
  let v593 : Index := Scalar.indexCast v592
  let c49 : Index := 49#32
  ![v593.toNat, 49]
def k0_off51 (i : grid0.Coords) (c0_i32_252 : BitVec 32) : Fin 2 → Nat :=
  let arg1 : BitVec 32 := BitVec.ofNat 32 (i 1).val
  let c2_i32_251 : BitVec 32 := 2#32
  let v603 : BitVec 32 := Scalar.muli arg1 c2_i32_251
  let v604 : BitVec 32 := Scalar.addi v603 c0_i32_252
  let v605 : Index := Scalar.indexCast v604
  let c50 : Index := 50#32
  ![v605.toNat, 50]
def k0_off52 (i : grid0.Coords) (c0_i32_257 : BitVec 32) : Fin 2 → Nat :=
  let arg1 : BitVec 32 := BitVec.ofNat 32 (i 1).val
  let c2_i32_256 : BitVec 32 := 2#32
  let v615 : BitVec 32 := Scalar.muli arg1 c2_i32_256
  let v616 : BitVec 32 := Scalar.addi v615 c0_i32_257
  let v617 : Index := Scalar.indexCast v616
  let c51 : Index := 51#32
  ![v617.toNat, 51]
def k0_off53 (i : grid0.Coords) (c0_i32_262 : BitVec 32) : Fin 2 → Nat :=
  let arg1 : BitVec 32 := BitVec.ofNat 32 (i 1).val
  let c2_i32_261 : BitVec 32 := 2#32
  let v627 : BitVec 32 := Scalar.muli arg1 c2_i32_261
  let v628 : BitVec 32 := Scalar.addi v627 c0_i32_262
  let v629 : Index := Scalar.indexCast v628
  let c52 : Index := 52#32
  ![v629.toNat, 52]
def k0_off54 (i : grid0.Coords) (c0_i32_267 : BitVec 32) : Fin 2 → Nat :=
  let arg1 : BitVec 32 := BitVec.ofNat 32 (i 1).val
  let c2_i32_266 : BitVec 32 := 2#32
  let v639 : BitVec 32 := Scalar.muli arg1 c2_i32_266
  let v640 : BitVec 32 := Scalar.addi v639 c0_i32_267
  let v641 : Index := Scalar.indexCast v640
  let c53 : Index := 53#32
  ![v641.toNat, 53]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S16x54 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S16x54 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x6912 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x54 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x6912 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x6912 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
variable {F : FTy → Type} [FloatOps F] [Named F]
def κ : String → Option EReal := fun
  | "ln2" => some ((Real.log 2 : ℝ) : EReal)
  | _ => none
-- ==== Reference.lean ====
abbrev S6x1024x6912 : Shape := ⟨3, ![6, 1024, 6912]⟩
abbrev S6x1024x54 : Shape := ⟨3, ![6, 1024, 54]⟩
abbrev S2048x6912 : Shape := ⟨2, ![2048, 6912]⟩
abbrev S16x54 : Shape := ⟨2, ![16, 54]⟩
abbrev S6144x6912 : Shape := ⟨2, ![6144, 6912]⟩
abbrev S6144x54 : Shape := ⟨2, ![6144, 54]⟩
abbrev S6144x2048 : Shape := ⟨2, ![6144, 2048]⟩
abbrev S6144x16 : Shape := ⟨2, ![6144, 16]⟩
abbrev S6144x54x128 : Shape := ⟨3, ![6144, 54, 128]⟩
abbrev S6144x54x1 : Shape := ⟨3, ![6144, 54, 1]⟩
abbrev S16x128x54x128 : Shape := ⟨4, ![16, 128, 54, 128]⟩
abbrev S16x1x54x1 : Shape := ⟨4, ![16, 1, 54, 1]⟩
abbrev S6144x16x128 : Shape := ⟨3, ![6144, 16, 128]⟩
abbrev S6144x16x1 : Shape := ⟨3, ![6144, 16, 1]⟩

abbrev nBuf : Space → Nat
  | .hbm => 10
  | .vmem => 8
  | .smem => 0
  | _ => 0

abbrev bufTy : (tb : Table) → Fin (tcTables nBuf tb) → BufTy
  | .hbm, ⟨0, _⟩ => ⟨S6x1024x6912, .fp8e4m3⟩
  | .hbm, ⟨1, _⟩ => ⟨S6x1024x54, .f32⟩
  | .hbm, ⟨2, _⟩ => ⟨S2048x6912, .fp8e4m3⟩
  | .hbm, ⟨3, _⟩ => ⟨S16x54, .f32⟩
  | .hbm, ⟨4, _⟩ => ⟨S2048x6912, .fp8e4m3⟩
  | .hbm, ⟨5, _⟩ => ⟨S16x54, .f32⟩
  | .hbm, ⟨6, _⟩ => ⟨S6144x6912, .fp8e4m3⟩
  | .hbm, ⟨7, _⟩ => ⟨S6144x54, .f32⟩
  | .hbm, ⟨8, _⟩ => ⟨S6144x2048, .fp8e4m3⟩
  | .hbm, ⟨9, _⟩ => ⟨S6144x16, .f32⟩
  | .local _ .vmem, ⟨0, _⟩ => ⟨S6144x6912, .fp8e4m3⟩
  | .local _ .vmem, ⟨1, _⟩ => ⟨S6144x54, .f32⟩
  | .local _ .vmem, ⟨2, _⟩ => ⟨S2048x6912, .fp8e4m3⟩
  | .local _ .vmem, ⟨3, _⟩ => ⟨S16x54, .f32⟩
  | .local _ .vmem, ⟨4, _⟩ => ⟨S2048x6912, .fp8e4m3⟩
  | .local _ .vmem, ⟨5, _⟩ => ⟨S16x54, .f32⟩
  | .local _ .vmem, ⟨6, _⟩ => ⟨S6144x2048, .fp8e4m3⟩
  | .local _ .vmem, ⟨7, _⟩ => ⟨S6144x16, .f32⟩
  | _, _ => ⟨S6x1024x6912, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6144x6912 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x54 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x6912 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x54 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x6912 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x54 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelRuns.lean ====
/- For the word-level kernel: its grid condition, the names of its staging memrefs and scratch buffers, and what the run
   assumes of the scratch. -/
module

public import proofs.«01_k».proof.Proof.Gen.Kernel.Frame
public import proofs.«01_k».proof.Proof.Gen.Kernel.Skeleton

@[expose] public section

set_option maxRecDepth 16384

noncomputable section

namespace Cert.Kernel.Hand

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 96 := Nat.lt_of_lt_of_eq t.isLt N_0
    have e0 : (grid0.coords t 0).val = t.val / 8 % 12 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-! ## The kernel body on any staging memrefs: a subtype the run finds -/

/-- Each window's current staging memref at point `t`, spelled as the pipeline passes it (`bodyAt0`), and its wholeness. -/
abbrev ms0_0 (t : Fin cfg0.N) : Memref sig .tc .smem S16x54 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S16x54 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x6912 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x54 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x6912 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x6912 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x16 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S512x6912 .bf16 := Memref.whole cc0_scratch0
abbrev scM0_1 : Memref sig .tc .vmem S256x6912 .bf16 := Memref.whole cc0_scratch1
abbrev scM0_2 : Memref sig .tc .vmem S256x6912 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.KernelRunA.lean ====
/- The word-level kernel's whole body, run once in the case where its conditional is taken (the grid points divisible
   by 8). The inputs are handed back as they were; nothing is said of the outputs and the scratch. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8824000 in
/-- The body's triple IN CASE A (`scf.if` 0 taken: points 0, 8, … 88: 12 of 96): on whole staging memrefs — the inputs' at their contents,
    the FORGOTTEN outputs' (6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .smem S16x54 .f32) (harg2 : arg2.IsWhole) (arg3 : Memref sig .tc .smem S16x54 .f32) (harg3 : arg3.IsWhole) (arg4 : Memref sig .tc .vmem S512x6912 .fp8e4m3) (harg4 : arg4.IsWhole) (arg5 : Memref sig .tc .vmem S512x54 .f32) (harg5 : arg5.IsWhole) (arg6 : Memref sig .tc .vmem S256x6912 .fp8e4m3) (harg6 : arg6.IsWhole) (arg7 : Memref sig .tc .vmem S256x6912 .fp8e4m3) (harg7 : arg7.IsWhole) (arg8 : Memref sig .tc .vmem S512x256 .fp8e4m3) (harg8 : arg8.IsWhole) (arg9 : Memref sig .tc .vmem S512x16 .f32) (harg9 : arg9.IsWhole) (arg10 : Memref sig .tc .vmem S512x6912 .bf16) (harg10 : arg10.IsWhole) (arg11 : Memref sig .tc .vmem S256x6912 .bf16) (harg11 : arg11.IsWhole) (arg12 : Memref sig .tc .vmem S256x6912 .bf16) (harg12 : arg12.IsWhole) (hc0 : cond0_0 i)
    (x0 : Vec F S16x54 .f32) (x1 : Vec F S16x54 .f32) (x2 : Vec F S512x6912 .fp8e4m3) (x3 : Vec F S512x54 .f32) (x4 : Vec F S256x6912 .fp8e4m3) (x5 : Vec F S256x6912 .fp8e4m3) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_gate_up_swiglu i arg2 harg2 arg3 harg3 arg4 harg4 arg5 harg5 arg6 harg6 arg7 harg7 arg8 harg8 arg9 harg9 arg10 harg10 arg11 harg11 arg12 harg12) K := by
    intro E K
    simp only [cc0_gate_up_swiglu_eq_skeleton]; unfold cc0_gate_up_swiglu_skel
    simp only [k0_part91_eq_skeleton, k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part92_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Hand

end
-- ==== Proof.KernelRunB.lean ====
/- The word-level kernel's whole body, run once in the case where its conditional is not taken (the grid points not
   divisible by 8). The inputs are handed back as they were; nothing is said of the outputs and the scratch. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 7616000 in
/-- The body's triple IN CASE B (`scf.if` 0 not taken: points 1, 2, … 95: 84 of 96): on whole staging memrefs — the inputs' at their contents,
    the FORGOTTEN outputs' (6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .smem S16x54 .f32) (harg2 : arg2.IsWhole) (arg3 : Memref sig .tc .smem S16x54 .f32) (harg3 : arg3.IsWhole) (arg4 : Memref sig .tc .vmem S512x6912 .fp8e4m3) (harg4 : arg4.IsWhole) (arg5 : Memref sig .tc .vmem S512x54 .f32) (harg5 : arg5.IsWhole) (arg6 : Memref sig .tc .vmem S256x6912 .fp8e4m3) (harg6 : arg6.IsWhole) (arg7 : Memref sig .tc .vmem S256x6912 .fp8e4m3) (harg7 : arg7.IsWhole) (arg8 : Memref sig .tc .vmem S512x256 .fp8e4m3) (harg8 : arg8.IsWhole) (arg9 : Memref sig .tc .vmem S512x16 .f32) (harg9 : arg9.IsWhole) (arg10 : Memref sig .tc .vmem S512x6912 .bf16) (harg10 : arg10.IsWhole) (arg11 : Memref sig .tc .vmem S256x6912 .bf16) (harg11 : arg11.IsWhole) (arg12 : Memref sig .tc .vmem S256x6912 .bf16) (harg12 : arg12.IsWhole) (hc0 : ¬cond0_0 i)
    (x0 : Vec F S16x54 .f32) (x1 : Vec F S16x54 .f32) (x2 : Vec F S512x6912 .fp8e4m3) (x3 : Vec F S512x54 .f32) (x4 : Vec F S256x6912 .fp8e4m3) (x5 : Vec F S256x6912 .fp8e4m3) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_gate_up_swiglu i arg2 harg2 arg3 harg3 arg4 harg4 arg5 harg5 arg6 harg6 arg7 harg7 arg8 harg8 arg9 harg9 arg10 harg10 arg11 harg11 arg12 harg12) K := by
    intro E K
    simp only [cc0_gate_up_swiglu_eq_skeleton]; unfold cc0_gate_up_swiglu_skel
    simp only [k0_part91_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part92_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Hand

end
-- ==== Proof.KernelFrame.lean ====
/- The frame of the word-level kernel: every run terminates without fault, leaves its arguments unchanged and its
   semaphores at zero. Nothing is said of what the outputs hold; that is said of the idealized kernel, in KRun.lean. -/
module

public import proofs.«01_k».proof.Proof.KernelRunB
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7): nothing reads what the kernel leaves in them, so nothing
    of it is named (Lib/Pipeline/Dat.lean `Dat.toRForget`). -/
def forgets0 : Fin 8 → Bool := fun w => w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hN : t.val < 96 := lt_of_lt_of_eq t.isLt (show cfg0.N = 96 from N_0)
  by_cases h0 : t.val % 8 = 0
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- A run of the pipeline that keeps the argument arrays as the region finds them keeps the arguments as launched. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 4 rfl).trans ((hA c 4).trans (V_main_arg2 m c)),
      (Pipeline.RDat.FramePost.arr_in h c 0 rfl).trans ((hA c 0).trans (V_main_arg3 m c)),
      (Pipeline.RDat.FramePost.arr_in h c 5 rfl).trans ((hA c 5).trans (V_main_arg4 m c)),
      (Pipeline.RDat.FramePost.arr_in h c 1 rfl).trans ((hA c 1).trans (V_main_arg5 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_rel m ρ (fun c => (dats m 0 c).toRForget forgets0) (A_eq m) (run_main m ρ)

/-- The frame, for any reading of the floats: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Hand

end
-- ==== Proof.Runs.lean ====
/- The kernel's grid condition, the names of its staging memrefs and scratch buffers, and what the run assumes of the
   scratch. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 96 := Nat.lt_of_lt_of_eq t.isLt N_0
    have e0 : (grid0.coords t 0).val = t.val / 8 % 12 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-! ## The kernel body on any staging memrefs: a subtype the run finds -/

/-- Each window's current staging memref at point `t`, spelled as the pipeline passes it (`bodyAt0`), and its wholeness. -/
abbrev ms0_0 (t : Fin cfg0.N) : Memref sig .tc .smem S16x54 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S16x54 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x6912 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x54 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x6912 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x6912 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x16 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S512x6912 .bf16 := Memref.whole cc0_scratch0
abbrev scM0_1 : Memref sig .tc .vmem S256x6912 .bf16 := Memref.whole cc0_scratch1
abbrev scM0_2 : Memref sig .tc .vmem S256x6912 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.RunA.lean ====
/- The kernel body run at a point that starts a row block (`n = 0`): the pieces each buffer ends with. -/
module

public import proofs.«01_k».proof.Proof.Runs

@[expose] public section

set_option maxRecDepth 16384

noncomputable section

namespace Cert.KernelIdeal.Hand

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8824000 in
/-- The body at a point with `n = 0`: from the inputs' buffers at `x0 … x5`, the scale block's at `x7` and the rest at
    anything, it ends with the inputs' as they were and each buffer it stores into holding the pieces `L6`, `L7`, `LS0`,
    `LT1`, `LT2` (last first) written over something. -/
noncomputable def kernelRun0_A (c : Dev nD) (i : grid0.Coords) (arg2 : Memref sig .tc .smem S16x54 .f32) (harg2 : arg2.IsWhole) (arg3 : Memref sig .tc .smem S16x54 .f32) (harg3 : arg3.IsWhole) (arg4 : Memref sig .tc .vmem S512x6912 .fp8e4m3) (harg4 : arg4.IsWhole) (arg5 : Memref sig .tc .vmem S512x54 .f32) (harg5 : arg5.IsWhole) (arg6 : Memref sig .tc .vmem S256x6912 .fp8e4m3) (harg6 : arg6.IsWhole) (arg7 : Memref sig .tc .vmem S256x6912 .fp8e4m3) (harg7 : arg7.IsWhole) (arg8 : Memref sig .tc .vmem S512x256 .fp8e4m3) (harg8 : arg8.IsWhole) (arg9 : Memref sig .tc .vmem S512x16 .f32) (harg9 : arg9.IsWhole) (arg10 : Memref sig .tc .vmem S512x6912 .bf16) (harg10 : arg10.IsWhole) (arg11 : Memref sig .tc .vmem S256x6912 .bf16) (harg11 : arg11.IsWhole) (arg12 : Memref sig .tc .vmem S256x6912 .bf16) (harg12 : arg12.IsWhole) (hc0 : cond0_0 i)
    (x0 : Vec F S16x54 .f32) (x1 : Vec F S16x54 .f32) (x2 : Vec F S512x6912 .fp8e4m3) (x3 : Vec F S512x54 .f32) (x4 : Vec F S256x6912 .fp8e4m3) (x5 : Vec F S256x6912 .fp8e4m3) (x7 : Vec F S512x16 .f32) :
    Σ' (L6 : List (View.Piece (Elt F) S512x256 .fp8e4m3)), Σ' (L7 : List (View.Piece (Elt F) S512x16 .f32)), Σ' (LS0 : List (View.Piece (Elt F) S512x6912 .bf16)), Σ' (LT1 : List (View.Piece (Elt F) S256x6912 .bf16)), { LT2 : List (View.Piece (Elt F) S256x6912 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LT1) ∗ (∃ f, arg12.view.loc (c : Thread nD τ) ↦[arg12.view.set]{fullShare} arg12.view.writes (Elt F) f LT2)) -∗ K ⟨⟩))
          ⊢ wp frame (wpE (defs₀ (F := F)) Variants.none c none) E (cc0_gate_up_swiglu i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_gate_up_swiglu_eq_skeleton]; unfold cc0_gate_up_swiglu_skel
    simp only [k0_part91_eq_skeleton, k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part92_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    isplitl [HS1]; · iexists _; iexact HS1
    iexists _; iexact HS2

end Cert.KernelIdeal.Hand

end
-- ==== Proof.RunB.lean ====
/- The kernel body run at a point inside a row block (`n > 0`): the pieces each buffer ends with. -/
module

public import proofs.«01_k».proof.Proof.RunA

@[expose] public section

set_option maxRecDepth 16384

noncomputable section

namespace Cert.KernelIdeal.Hand

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 7616000 in
/-- The body at a point with `n > 0`: as at `n = 0`, with the dequantised rows `xs0` found in their scratch and kept. -/
noncomputable def kernelRun0_B (c : Dev nD) (i : grid0.Coords) (arg2 : Memref sig .tc .smem S16x54 .f32) (harg2 : arg2.IsWhole) (arg3 : Memref sig .tc .smem S16x54 .f32) (harg3 : arg3.IsWhole) (arg4 : Memref sig .tc .vmem S512x6912 .fp8e4m3) (harg4 : arg4.IsWhole) (arg5 : Memref sig .tc .vmem S512x54 .f32) (harg5 : arg5.IsWhole) (arg6 : Memref sig .tc .vmem S256x6912 .fp8e4m3) (harg6 : arg6.IsWhole) (arg7 : Memref sig .tc .vmem S256x6912 .fp8e4m3) (harg7 : arg7.IsWhole) (arg8 : Memref sig .tc .vmem S512x256 .fp8e4m3) (harg8 : arg8.IsWhole) (arg9 : Memref sig .tc .vmem S512x16 .f32) (harg9 : arg9.IsWhole) (arg10 : Memref sig .tc .vmem S512x6912 .bf16) (harg10 : arg10.IsWhole) (arg11 : Memref sig .tc .vmem S256x6912 .bf16) (harg11 : arg11.IsWhole) (arg12 : Memref sig .tc .vmem S256x6912 .bf16) (harg12 : arg12.IsWhole) (hc0 : ¬cond0_0 i)
    (x0 : Vec F S16x54 .f32) (x1 : Vec F S16x54 .f32) (x2 : Vec F S512x6912 .fp8e4m3) (x3 : Vec F S512x54 .f32) (x4 : Vec F S256x6912 .fp8e4m3) (x5 : Vec F S256x6912 .fp8e4m3) (x7 : Vec F S512x16 .f32) (xs0 : Vec F S512x6912 .bf16) :
    Σ' (L6 : List (View.Piece (Elt F) S512x256 .fp8e4m3)), Σ' (L7 : List (View.Piece (Elt F) S512x16 .f32)), Σ' (LS0 : List (View.Piece (Elt F) S512x6912 .bf16)), Σ' (LT1 : List (View.Piece (Elt F) S256x6912 .bf16)), { LT2 : List (View.Piece (Elt F) S256x6912 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ owns (c : Thread nD τ) arg10 fullShare xs0 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0 ∗ (∃ f, arg11.view.loc (c : Thread nD τ) ↦[arg11.view.set]{fullShare} arg11.view.writes (Elt F) f LT1) ∗ (∃ f, arg12.view.loc (c : Thread nD τ) ↦[arg12.view.set]{fullShare} arg12.view.writes (Elt F) f LT2)) -∗ K ⟨⟩))
          ⊢ wp frame (wpE (defs₀ (F := F)) Variants.none c none) E (cc0_gate_up_swiglu i arg2 harg2 arg3 harg3 arg4 harg4 arg5 harg5 arg6 harg6 arg7 harg7 arg8 harg8 arg9 harg9 arg10 harg10 arg11 harg11 arg12 harg12) K } := by
  refine ⟨?_, ?_, [], ?_, ?_, fun E K => ?run⟩
  case run =>
    simp only [cc0_gate_up_swiglu_eq_skeleton]; unfold cc0_gate_up_swiglu_skel
    simp only [k0_part91_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part92_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]
    · iexists _; isplitr; · ipureintro; exact harg10.read_unread _
      iexact HS0
    isplitl [HS1]; · iexists _; iexact HS1
    iexists _; iexact HS2

end Cert.KernelIdeal.Hand

end
-- ==== Proof.Dequant.lean ====
/- What the kernel's stores leave in its three bf16 scratch buffers: the rows of x and of the two weights, each code times
   the scale of its group. -/
module

public import proofs.«01_k».proof.Proof.RunB
public import Idealize.ShloMosaic.Lib.Pointwise
public import Idealize.ShloMosaic.Lib.Pipeline.ReadBack
public import Idealize.ShloMosaic.Lib.Pipeline.Value

@[expose] public section

set_option maxRecDepth 16384

noncomputable section

namespace Cert.KernelIdeal.Hand

open Idealize.ShloMosaic Idealize.ShloMosaic.TcCoe
open Cert.KernelIdeal.Gen
open Idealize.SL.Sem

/-- A row block of x: each code times the scale of its row and group of 128 columns. -/
def xRows (x : Vec Ideal S512x6912 .fp8e4m3) (s : Vec Ideal S512x54 .f32) : Vec Ideal S512x6912 .bf16 := fun y =>
  (x y * s (ix2 (y 0) ⟨(y 1).val / 128, by have h : (y 1).val < 6912 := (y 1).isLt; omega⟩ : S512x54.Idx) : EReal)

/-- A row block of a weight, the block number `n`: each code times the scale of its 128 × 128 tile. -/
def wRows (n : Fin 8) (w : Vec Ideal S256x6912 .fp8e4m3) (s : Vec Ideal S16x54 .f32) : Vec Ideal S256x6912 .bf16 := fun y =>
  (w y * s (ix2 ⟨2 * n.val + (y 0).val / 128, by have h : (y 0).val < 256 := (y 0).isLt; omega⟩
      ⟨(y 1).val / 128, by have h : (y 1).val < 6912 := (y 1).isLt; omega⟩ : S16x54.Idx) : EReal)

/-- One stored group of columns of x is that part of `xRows`. -/
theorem xPiece (arg4 : Memref sig .tc .vmem S512x6912 .fp8e4m3) (harg4 : arg4.IsWhole) (arg5 : Memref sig .tc .vmem S512x54 .f32)
    (harg5 : arg5.IsWhole) (x : Vec Ideal S512x6912 .fp8e4m3) (s : Vec Ideal S512x54 .f32) (k : ℕ)
    (hS : ∀ a, (![0, k] : Fin 2 → ℕ) a + S512x1.size a ≤ S512x54.size a)
    (hC : ∀ a, (![0, 128 * k] : Fin 2 → ℕ) a + S512x128.size a ≤ S512x6912.size a) (j : S512x128.Idx) :
    (shapeCast S512x128 (mulf (F := Ideal) (extf .bf16 (shapeCast S512x128
        (View.readAt (Elt Ideal) arg4.view (Rect.unit (s := S512x6912) ![0, 128 * k] S512x128.size hC).toLoadRect (harg4.unread x) : FVec Ideal S512x128 .fp8e4m3)
          shapeCasts_S512x128_S512x128) bitsLt_fp8e4m3_bf16)
      (broadcastTo S512x128 (truncf .bf16 (shapeCast S512x1
        (View.readAt (Elt Ideal) arg5.view (Rect.unit (s := S512x54) ![0, k] S512x1.size hS).toLoadRect (harg5.unread s) : FVec Ideal S512x1 .f32)
          shapeCasts_S512x1_S512x1) bitsLt_bf16_f32) broadcasts_S512x1_S512x128)) shapeCasts_S512x128_S512x128 : FVec Ideal S512x128 .bf16) j
      = xRows x s ((Rect.unit (s := S512x6912) ![0, 128 * k] S512x128.size hC).emb j) := by
  rw [View.readAt_eq_ld, View.readAt_eq_ld, harg4.read_unread, harg5.read_unread]
  idx_vars j
  unfold xRows
  pointwise
  have e : (Rect.unit (s := S512x6912) ![0, 128 * k] ![512, 128] hC).emb (ix2 j0 j1)
      = (ix2 j0 ⟨128 * k + j1.val, by have := hC 1; have := j1.isLt; simp at *; omega⟩ : S512x6912.Idx) := by
    refine Rect.emb_eq_of_coords _ _ _ fun a => ?_
    fin_cases a <;> simp [Rect.unit, ix2]
  rw [e]
  have h1 : (128 * k + j1.val) / 128 = k := by have := j1.isLt; omega
  congr 2
  exact congrArg (ix2 j0) (Fin.ext h1.symm)

/-- One stored tile of a weight is that part of `wRows`: `off` is where the scale is read. -/
theorem wPiece (arg2 : Memref sig .tc .smem S16x54 .f32) (harg2 : arg2.IsWhole) (arg6 : Memref sig .tc .vmem S256x6912 .fp8e4m3)
    (harg6 : arg6.IsWhole) (s : Vec Ideal S16x54 .f32) (w : Vec Ideal S256x6912 .fp8e4m3) (n : Fin 8) (r k : ℕ)
    (off : Fin 2 → ℕ) (ho : off = ![2 * n.val + r, k]) (hr : r < 2)
    (hS : ∀ a, off a + S1x1.size a ≤ S16x54.size a) (h1 : 0 < (Rect.unit (s := S16x54) off S1x1.size hS).toLoadRect.shape.numel)
    (hC : ∀ a, (![128 * r, 128 * k] : Fin 2 → ℕ) a + S128x128.size a ≤ S256x6912.size a) (j : S128x128.Idx) :
    (shapeCast S128x128 (mulf (F := Ideal) (extf .bf16
        (View.readAt (Elt Ideal) arg6.view (Rect.unit (s := S256x6912) ![128 * r, 128 * k] S128x128.size hC).toLoadRect (harg6.unread w) : FVec Ideal S128x128 .fp8e4m3)
          bitsLt_fp8e4m3_bf16)
      (broadcast S128x128 (Scalar.truncf .bf16 bitsLt_bf16_f32
        (View.readAt (Elt Ideal) arg2.view (Rect.unit (s := S16x54) off S1x1.size hS).toLoadRect (harg2.unread s) (Shape.Idx.first h1) : Elt Ideal .f32))))
        shapeCasts_S128x128_S128x128 : FVec Ideal S128x128 .bf16) j
      = wRows n w s ((Rect.unit (s := S256x6912) ![128 * r, 128 * k] S128x128.size hC).emb j) := by
  subst ho
  rw [View.readAt_eq_ld, View.readAt_eq_ld, harg2.read_unread, harg6.read_unread]
  idx_vars j
  unfold wRows
  pointwise
  have e : (Rect.unit (s := S256x6912) ![128 * r, 128 * k] ![128, 128] hC).emb (ix2 j0 j1)
      = (ix2 ⟨128 * r + j0.val, by have := hC 0; have := j0.isLt; simp at *; omega⟩
          ⟨128 * k + j1.val, by have := hC 1; have := j1.isLt; simp at *; omega⟩ : S256x6912.Idx) := by
    refine Rect.emb_eq_of_coords _ _ _ fun a => ?_
    fin_cases a <;> simp [Rect.unit, ix2]
  rw [e]
  have h2 : (128 * r + j0.val) / 128 = r := by have := j0.isLt; omega
  have h3 : (128 * k + j1.val) / 128 = k := by have := j1.isLt; omega
  congr 2
  exact congrArg₂ ix2 (Fin.ext (by simp [ix2, h2])) (Fin.ext h3.symm)

/-- Where the scale of tile row `r` is read. -/
theorem row0 (i : grid0.Coords) : (Scalar.indexCast (Scalar.addi (Scalar.muli (BitVec.ofNat 32 (i 1).val) 2#32) 0#32) : Index).toNat = 2 * (i 1).val + 0 := by
  have h : (i 1).val < 8 := (i 1).isLt
  simp only [Scalar.indexCast, Scalar.addi, Scalar.muli, IntOp.addi, IntOp.muli]
  generalize (i 1).val = n at h
  interval_cases n <;> rfl

theorem row1 (i : grid0.Coords) : (Scalar.indexCast (Scalar.addi (Scalar.muli (BitVec.ofNat 32 (i 1).val) 2#32) 1#32) : Index).toNat = 2 * (i 1).val + 1 := by
  have h : (i 1).val < 8 := (i 1).isLt
  simp only [Scalar.indexCast, Scalar.addi, Scalar.muli, IntOp.addi, IntOp.muli]
  generalize (i 1).val = n at h
  interval_cases n <;> rfl

/-- The 54 stores of x. -/
theorem xPieces (c : Dev nD) (arg4 : Memref sig .tc .vmem S512x6912 .fp8e4m3) (harg4 : arg4.IsWhole) (arg5 : Memref sig .tc .vmem S512x54 .f32)
    (harg5 : arg5.IsWhole) (x : Vec Ideal S512x6912 .fp8e4m3) (s : Vec Ideal S512x54 .f32) :
    View.PiecesOf (xRows x s) (kernelRun0_A.sl.HS0_54 (F := Ideal) c arg4 harg4 arg5 harg5 x s) := by
  unfold kernelRun0_A.sl.HS0_54
  refine ⟨fun j => xPiece arg4 harg4 arg5 harg5 x s 53 _ _ j, ?_⟩
  refine ⟨fun j => xPiece arg4 harg4 arg5 harg5 x s 52 _ _ j, ?_⟩
  refine ⟨fun j => xPiece arg4 harg4 arg5 harg5 x s 51 _ _ j, ?_⟩
  refine ⟨fun j => xPiece arg4 harg4 arg5 harg5 x s 50 _ _ j, ?_⟩
  refine ⟨fun j => xPiece arg4 harg4 arg5 harg5 x s 49 _ _ j, ?_⟩
  refine ⟨fun j => xPiece arg4 harg4 arg5 harg5 x s 48 _ _ j, ?_⟩
  refine ⟨fun j => xPiece arg4 harg4 arg5 harg5 x s 47 _ _ j, ?_⟩
  refine ⟨fun j => xPiece arg4 harg4 arg5 harg5 x s 46 _ _ j, ?_⟩
  refine ⟨fun j => xPiece arg4 harg4 arg5 harg5 x s 45 _ _ j, ?_⟩
  refine ⟨fun j => xPiece arg4 harg4 arg5 harg5 x s 44 _ _ j, ?_⟩
  refine ⟨fun j => xPiece arg4 harg4 arg5 harg5 x s 43 _ _ j, ?_⟩
  refine ⟨fun j => xPiece arg4 harg4 arg5 harg5 x s 42 _ _ j, ?_⟩
  refine ⟨fun j => xPiece arg4 harg4 arg5 harg5 x s 41 _ _ j, ?_⟩
  refine ⟨fun j => xPiece arg4 harg4 arg5 harg5 x s 40 _ _ j, ?_⟩
  refine ⟨fun j => xPiece arg4 harg4 arg5 harg5 x s 39 _ _ j, ?_⟩
  refine ⟨fun j => xPiece arg4 harg4 arg5 harg5 x s 38 _ _ j, ?_⟩
  refine ⟨fun j => xPiece arg4 harg4 arg5 harg5 x s 37 _ _ j, ?_⟩
  refine ⟨fun j => xPiece arg4 harg4 arg5 harg5 x s 36 _ _ j, ?_⟩
  refine ⟨fun j => xPiece arg4 harg4 arg5 harg5 x s 35 _ _ j, ?_⟩
  refine ⟨fun j => xPiece arg4 harg4 arg5 harg5 x s 34 _ _ j, ?_⟩
  refine ⟨fun j => xPiece arg4 harg4 arg5 harg5 x s 33 _ _ j, ?_⟩
  refine ⟨fun j => xPiece arg4 harg4 arg5 harg5 x s 32 _ _ j, ?_⟩
  refine ⟨fun j => xPiece arg4 harg4 arg5 harg5 x s 31 _ _ j, ?_⟩
  refine ⟨fun j => xPiece arg4 harg4 arg5 harg5 x s 30 _ _ j, ?_⟩
  refine ⟨fun j => xPiece arg4 harg4 arg5 harg5 x s 29 _ _ j, ?_⟩
  refine ⟨fun j => xPiece arg4 harg4 arg5 harg5 x s 28 _ _ j, ?_⟩
  refine ⟨fun j => xPiece arg4 harg4 arg5 harg5 x s 27 _ _ j, ?_⟩
  refine ⟨fun j => xPiece arg4 harg4 arg5 harg5 x s 26 _ _ j, ?_⟩
  refine ⟨fun j => xPiece arg4 harg4 arg5 harg5 x s 25 _ _ j, ?_⟩
  refine ⟨fun j => xPiece arg4 harg4 arg5 harg5 x s 24 _ _ j, ?_⟩
  refine ⟨fun j => xPiece arg4 harg4 arg5 harg5 x s 23 _ _ j, ?_⟩
  refine ⟨fun j => xPiece arg4 harg4 arg5 harg5 x s 22 _ _ j, ?_⟩
  refine ⟨fun j => xPiece arg4 harg4 arg5 harg5 x s 21 _ _ j, ?_⟩
  refine ⟨fun j => xPiece arg4 harg4 arg5 harg5 x s 20 _ _ j, ?_⟩
  refine ⟨fun j => xPiece arg4 harg4 arg5 harg5 x s 19 _ _ j, ?_⟩
  refine ⟨fun j => xPiece arg4 harg4 arg5 harg5 x s 18 _ _ j, ?_⟩
  refine ⟨fun j => xPiece arg4 harg4 arg5 harg5 x s 17 _ _ j, ?_⟩
  refine ⟨fun j => xPiece arg4 harg4 arg5 harg5 x s 16 _ _ j, ?_⟩
  refine ⟨fun j => xPiece arg4 harg4 arg5 harg5 x s 15 _ _ j, ?_⟩
  refine ⟨fun j => xPiece arg4 harg4 arg5 harg5 x s 14 _ _ j, ?_⟩
  refine ⟨fun j => xPiece arg4 harg4 arg5 harg5 x s 13 _ _ j, ?_⟩
  refine ⟨fun j => xPiece arg4 harg4 arg5 harg5 x s 12 _ _ j, ?_⟩
  refine ⟨fun j => xPiece arg4 harg4 arg5 harg5 x s 11 _ _ j, ?_⟩
  refine ⟨fun j => xPiece arg4 harg4 arg5 harg5 x s 10 _ _ j, ?_⟩
  refine ⟨fun j => xPiece arg4 harg4 arg5 harg5 x s 9 _ _ j, ?_⟩
  refine ⟨fun j => xPiece arg4 harg4 arg5 harg5 x s 8 _ _ j, ?_⟩
  refine ⟨fun j => xPiece arg4 harg4 arg5 harg5 x s 7 _ _ j, ?_⟩
  refine ⟨fun j => xPiece arg4 harg4 arg5 harg5 x s 6 _ _ j, ?_⟩
  refine ⟨fun j => xPiece arg4 harg4 arg5 harg5 x s 5 _ _ j, ?_⟩
  refine ⟨fun j => xPiece arg4 harg4 arg5 harg5 x s 4 _ _ j, ?_⟩
  refine ⟨fun j => xPiece arg4 harg4 arg5 harg5 x s 3 _ _ j, ?_⟩
  refine ⟨fun j => xPiece arg4 harg4 arg5 harg5 x s 2 _ _ j, ?_⟩
  refine ⟨fun j => xPiece arg4 harg4 arg5 harg5 x s 1 _ _ j, ?_⟩
  refine ⟨fun j => xPiece arg4 harg4 arg5 harg5 x s 0 _ _ j, ?_⟩
  exact trivial

/-- The 108 stores of each weight. -/
theorem gPiecesA (c : Dev nD) (i : grid0.Coords) (arg2 : Memref sig .tc .smem S16x54 .f32) (harg2 : arg2.IsWhole) (arg6 : Memref sig .tc .vmem S256x6912 .fp8e4m3)
    (harg6 : arg6.IsWhole) (s : Vec Ideal S16x54 .f32) (w : Vec Ideal S256x6912 .fp8e4m3) :
    View.PiecesOf (wRows (i 1) w s) (kernelRun0_A.sl.HS1_108 (F := Ideal) c i arg2 harg2 arg6 harg6 s w) := by
  unfold kernelRun0_A.sl.HS1_108
  refine ⟨fun j => wPiece arg2 harg2 arg6 harg6 s w (i 1) 1 53 _ (congrArg (fun a : ℕ => ![a, 53]) (row1 i)) (by decide) _ _ _ j, ?_⟩
  refine ⟨fun j => wPiece arg2 harg2 arg6 harg6 s w (i 1) 1 52 _ (congrArg (fun a : ℕ => ![a, 52]) (row1 i)) (by decide) _ _ _ j, ?_⟩
  refine ⟨fun j => wPiece arg2 harg2 arg6 harg6 s w (i 1) 1 51 _ (congrArg (fun a : ℕ => ![a, 51]) (row1 i)) (by decide) _ _ _ j, ?_⟩
  refine ⟨fun j => wPiece arg2 harg2 arg6 harg6 s w (i 1) 1 50 _ (congrArg (fun a : ℕ => ![a, 50]) (row1 i)) (by decide) _ _ _ j, ?_⟩
  refine ⟨fun j => wPiece arg2 harg2 arg6 harg6 s w (i 1) 1 49 _ (congrArg (fun a : ℕ => ![a, 49]) (row1 i)) (by decide) _ _ _ j, ?_⟩
  refine ⟨fun j => wPiece arg2 harg2 arg6 harg6 s w (i 1) 1 48 _ (congrArg (fun a : ℕ => ![a, 48]) (row1 i)) (by decide) _ _ _ j, ?_⟩
  refine ⟨fun j => wPiece arg2 harg2 arg6 harg6 s w (i 1) 1 47 _ (congrArg (fun a : ℕ => ![a, 47]) (row1 i)) (by decide) _ _ _ j, ?_⟩
  refine ⟨fun j => wPiece arg2 harg2 arg6 harg6 s w (i 1) 1 46 _ (congrArg (fun a : ℕ => ![a, 46]) (row1 i)) (by decide) _ _ _ j, ?_⟩
  refine ⟨fun j => wPiece arg2 harg2 arg6 harg6 s w (i 1) 1 45 _ (congrArg (fun a : ℕ => ![a, 45]) (row1 i)) (by decide) _ _ _ j, ?_⟩
  refine ⟨fun j => wPiece arg2 harg2 arg6 harg6 s w (i 1) 1 44 _ (congrArg (fun a : ℕ => ![a, 44]) (row1 i)) (by decide) _ _ _ j, ?_⟩
  refine ⟨fun j => wPiece arg2 harg2 arg6 harg6 s w (i 1) 1 43 _ (congrArg (fun a : ℕ => ![a, 43]) (row1 i)) (by decide) _ _ _ j, ?_⟩
  refine ⟨fun j => wPiece arg2 harg2 arg6 harg6 s w (i 1) 1 42 _ (congrArg (fun a : ℕ => ![a, 42]) (row1 i)) (by decide) _ _ _ j, ?_⟩
  refine ⟨fun j => wPiece arg2 harg2 arg6 harg6 s w (i 1) 1 41 _ (congrArg (fun a : ℕ => ![a, 41]) (row1 i)) (by decide) _ _ _ j, ?_⟩
  refine ⟨fun j => wPiece arg2 harg2 arg6 harg6 s w (i 1) 1 40 _ (congrArg (fun a : ℕ => ![a, 40]) (row1 i)) (by decide) _ _ _ j, ?_⟩
  refine ⟨fun j => wPiece arg2 harg2 arg6 harg6 s w (i 1) 1 39 _ (congrArg (fun a : ℕ => ![a, 39]) (row1 i)) (by decide) _ _ _ j, ?_⟩
  refine ⟨fun j => wPiece arg2 harg2 arg6 harg6 s w (i 1) 1 38 _ (congrArg (fun a : ℕ => ![a, 38]) (row1 i)) (by decide) _ _ _ j, ?_⟩
  refine ⟨fun j => wPiece arg2 harg2 arg6 harg6 s w (i 1) 1 37 _ (congrArg (fun a : ℕ => ![a, 37]) (row1 i)) (by decide) _ _ _ j, ?_⟩
  refine ⟨fun j => wPiece arg2 harg2 arg6 harg6 s w (i 1) 1 36 _ (congrArg (fun a : ℕ => ![a, 36]) (row1 i)) (by decide) _ _ _ j, ?_⟩
  refine ⟨fun j => wPiece arg2 harg2 arg6 harg6 s w (i 1) 1 35 _ (congrArg (fun a : ℕ => ![a, 35]) (row1 i)) (by decide) _ _ _ j, ?_⟩
  refine ⟨fun j => wPiece arg2 harg2 arg6 harg6 s w (i 1) 1 34 _ (congrArg (fun a : ℕ => ![a, 34]) (row1 i)) (by decide) _ _ _ j, ?_⟩
  refine ⟨fun j => wPiece arg2 harg2 arg6 harg6 s w (i 1) 1 33 _ (congrArg (fun a : ℕ => ![a, 33]) (row1 i)) (by decide) _ _ _ j, ?_⟩
  refine ⟨fun j => wPiece arg2 harg2 arg6 harg6 s w (i 1) 1 32 _ (congrArg (fun a : ℕ => ![a, 32]) (row1 i)) (by decide) _ _ _ j, ?_⟩
  refine ⟨fun j => wPiece arg2 harg2 arg6 harg6 s w (i 1) 1 31 _ (congrArg (fun a : ℕ => ![a, 31]) (row1 i)) (by decide) _ _ _ j, ?_⟩
  refine ⟨fun j => wPiece arg2 harg2 arg6 harg6 s w (i 1) 1 30 _ (congrArg (fun a : ℕ => ![a, 30]) (row1 i)) (by decide) _ _ _ j, ?_⟩
  refine ⟨fun j => wPiece arg2 harg2 arg6 harg6 s w (i 1) 1 29 _ (congrArg (fun a : ℕ => ![a, 29]) (row1 i)) (by decide) _ _ _ j, ?_⟩
  refine ⟨fun j => wPiece arg2 harg2 arg6 harg6 s w (i 1) 1 28 _ (congrArg (fun a : ℕ => ![a, 28]) (row1 i)) (by decide) _ _ _ j, ?_⟩
  refine ⟨fun j => wPiece arg2 harg2 arg6 harg6 s w (i 1) 1 27 _ (congrArg (fun a : ℕ => ![a, 27]) (row1 i)) (by decide) _ _ _ j, ?_⟩
  refine ⟨fun j => wPiece arg2 harg2 arg6 harg6 s w (i 1) 1 26 _ (congrArg (fun a : ℕ => ![a, 26]) (row1 i)) (by decide) _ _ _ j, ?_⟩
  refine ⟨fun j => wPiece arg2 harg2 arg6 harg6 s w (i 1) 1 25 _ (congrArg (fun a : ℕ => ![a, 25]) (row1 i)) (by decide) _ _ _ j, ?_⟩
  refine ⟨fun j => wPiece arg2 harg2 arg6 harg6 s w (i 1) 1 24 _ (congrArg (fun a : ℕ => ![a, 24]) (row1 i)) (by decide) _ _ _ j, ?_⟩
  refine ⟨fun j => wPiece arg2 harg2 arg6 harg6 s w (i 1) 1 23 _ (congrArg (fun a : ℕ => ![a, 23]) (row1 i)) (by decide) _ _ _ j, ?_⟩
  refine ⟨fun j => wPiece arg2 harg2 arg6 harg6 s w (i 1) 1 22 _ (congrArg (fun a : ℕ => ![a, 22]) (row1 i)) (by decide) _ _ _ j, ?_⟩
  refine ⟨fun j => wPiece arg2 harg2 arg6 harg6 s w (i 1) 1 21 _ (congrArg (fun a : ℕ => ![a, 21]) (row1 i)) (by decide) _ _ _ j, ?_⟩
  refine ⟨fun j => wPiece arg2 harg2 arg6 harg6 s w (i 1) 1 20 _ (congrArg (fun a : ℕ => ![a, 20]) (row1 i)) (by decide) _ _ _ j, ?_⟩
  refine ⟨fun j => wPiece arg2 harg2 arg6 harg6 s w (i 1) 1 19 _ (congrArg (fun a : ℕ => ![a, 19]) (row1 i)) (by decide) _ _ _ j, ?_⟩
  refine ⟨fun j => wPiece arg2 harg2 arg6 harg6 s w (i 1) 1 18 _ (congrArg (fun a : ℕ => ![a, 18]) (row1 i)) (by decide) _ _ _ j, ?_⟩
  refine ⟨fun j => wPiece arg2 harg2 arg6 harg6 s w (i 1) 1 17 _ (congrArg (fun a : ℕ => ![a, 17]) (row1 i)) (by decide) _ _ _ j, ?_⟩
  refine ⟨fun j => wPiece arg2 harg2 arg6 harg6 s w (i 1) 1 16 _ (congrArg (fun a : ℕ => ![a, 16]) (row1 i)) (by decide) _ _ _ j, ?_⟩
  refine ⟨fun j => wPiece arg2 harg2 arg6 harg6 s w (i 1) 1 15 _ (congrArg (fun a : ℕ => ![a, 15]) (row1 i)) (by decide) _ _ _ j, ?_⟩
  refine ⟨fun j => wPiece arg2 harg2 arg6 harg6 s w (i 1) 1 14 _ (congrArg (fun a : ℕ => ![a, 14]) (row1 i)) (by decide) _ _ _ j, ?_⟩
  refine ⟨fun j => wPiece arg2 harg2 arg6 harg6 s w (i 1) 1 13 _ (congrArg (fun a : ℕ => ![a, 13]) (row1 i)) (by decide) _ _ _ j, ?_⟩
  refine ⟨fun j => wPiece arg2 harg2 arg6 harg6 s w (i 1) 1 12 _ (congrArg (fun a : ℕ => ![a, 12]) (row1 i)) (by decide) _ _ _ j, ?_⟩
  refine ⟨fun j => wPiece arg2 harg2 arg6 harg6 s w (i 1) 1 11 _ (congrArg (fun a : ℕ => ![a, 11]) (row1 i)) (by decide) _ _ _ j, ?_⟩
  refine ⟨fun j => wPiece arg2 harg2 arg6 harg6 s w (i 1) 1 10 _ (congrArg (fun a : ℕ => ![a, 10]) (row1 i)) (by decide) _ _ _ j, ?_⟩
  refine ⟨fun j => wPiece arg2 harg2 arg6 harg6 s w (i 1) 1 9 _ (congrArg (fun a : ℕ => ![a, 9]) (row1 i)) (by decide) _ _ _ j, ?_⟩
  refine ⟨fun j => wPiece arg2 harg2 arg6 harg6 s w (i 1) 1 8 _ (congrArg (fun a : ℕ => ![a, 8]) (row1 i)) (by decide) _ _ _ j, ?_⟩
  refine ⟨fun j => wPiece arg2 harg2 arg6 harg6 s w (i 1) 1 7 _ (congrArg (fun a : ℕ => ![a, 7]) (row1 i)) (by decide) _ _ _ j, ?_⟩
  refine ⟨fun j => wPiece arg2 harg2 arg6 harg6 s w (i 1) 1 6 _ (congrArg (fun a : ℕ => ![a, 6]) (row1 i)) (by decide) _ _ _ j, ?_⟩
  refine ⟨fun j => wPiece arg2 harg2 arg6 harg6 s w (i 1) 1 5 _ (congrArg (fun a : ℕ => ![a, 5]) (row1 i)) (by decide) _ _ _ j, ?_⟩
  refine ⟨fun j => wPiece arg2 harg2 arg6 harg6 s w (i 1) 1 4 _ (congrArg (fun a : ℕ => ![a, 4]) (row1 i)) (by decide) _ _ _ j, ?_⟩
  refine ⟨fun j => wPiece arg2 harg2 arg6 harg6 s w (i 1) 1 3 _ (congrArg (fun a : ℕ => ![a, 3]) (row1 i)) (by decide) _ _ _ j, ?_⟩
  refine ⟨fun j => wPiece arg2 harg2 arg6 harg6 s w (i 1) 1 2 _ (congrArg (fun a : ℕ => ![a, 2]) (row1 i)) (by decide) _ _ _ j, ?_⟩
  refine ⟨fun j => wPiece arg2 harg2 arg6 harg6 s w (i 1) 1 1 _ (congrArg (fun a : ℕ => ![a, 1]) (row1 i)) (by decide) _ _ _ j, ?_⟩
  refine ⟨fun j => wPiece arg2 harg2 arg6 harg6 s w (i 1) 1 0 _ (congrArg (fun a : ℕ => ![a, 0]) (row1 i)) (by decide) _ _ _ j, ?_⟩
  refine ⟨fun j => wPiece arg2 harg2 arg6 harg6 s w (i 1) 0 53 _ (congrArg (fun a : ℕ => ![a, 53]) (row0 i)) (by decide) _ _ _ j, ?_⟩
  refine ⟨fun j => wPiece arg2 harg2 arg6 harg6 s w (i 1) 0 52 _ (congrArg (fun a : ℕ => ![a, 52]) (row0 i)) (by decide) _ _ _ j, ?_⟩
  refine ⟨fun j => wPiece arg2 harg2 arg6 harg6 s w (i 1) 0 51 _ (congrArg (fun a : ℕ => ![a, 51]) (row0 i)) (by decide) _ _ _ j, ?_⟩
  refine ⟨fun j => wPiece arg2 harg2 arg6 harg6 s w (i 1) 0 50 _ (congrArg (fun a : ℕ => ![a, 50]) (row0 i)) (by decide) _ _ _ j, ?_⟩
  refine ⟨fun j => wPiece arg2 harg2 arg6 harg6 s w (i 1) 0 49 _ (congrArg (fun a : ℕ => ![a, 49]) (row0 i)) (by decide) _ _ _ j, ?_⟩
  refine ⟨fun j => wPiece arg2 harg2 arg6 harg6 s w (i 1) 0 48 _ (congrArg (fun a : ℕ => ![a, 48]) (row0 i)) (by decide) _ _ _ j, ?_⟩
  refine ⟨fun j => wPiece arg2 harg2 arg6 harg6 s w (i 1) 0 47 _ (congrArg (fun a : ℕ => ![a, 47]) (row0 i)) (by decide) _ _ _ j, ?_⟩
  refine ⟨fun j => wPiece arg2 harg2 arg6 harg6 s w (i 1) 0 46 _ (congrArg (fun a : ℕ => ![a, 46]) (row0 i)) (by decide) _ _ _ j, ?_⟩
  refine ⟨fun j => wPiece arg2 harg2 arg6 harg6 s w (i 1) 0 45 _ (congrArg (fun a : ℕ => ![a, 45]) (row0 i)) (by decide) _ _ _ j, ?_⟩
  refine ⟨fun j => wPiece arg2 harg2 arg6 harg6 s w (i 1) 0 44 _ (congrArg (fun a : ℕ => ![a, 44]) (row0 i)) (by decide) _ _ _ j, ?_⟩
  refine ⟨fun j => wPiece arg2 harg2 arg6 harg6 s w (i 1) 0 43 _ (congrArg (fun a : ℕ => ![a, 43]) (row0 i)) (by decide) _ _ _ j, ?_⟩
  refine ⟨fun j => wPiece arg2 harg2 arg6 harg6 s w (i 1) 0 42 _ (congrArg (fun a : ℕ => ![a, 42]) (row0 i)) (by decide) _ _ _ j, ?_⟩
  refine ⟨fun j => wPiece arg2 harg2 arg6 harg6 s w (i 1) 0 41 _ (congrArg (fun a : ℕ => ![a, 41]) (row0 i)) (by decide) _ _ _ j, ?_⟩
  refine ⟨fun j => wPiece arg2 harg2 arg6 harg6 s w (i 1) 0 40 _ (congrArg (fun a : ℕ => ![a, 40]) (row0 i)) (by decide) _ _ _ j, ?_⟩
  refine ⟨fun j => wPiece arg2 harg2 arg6 harg6 s w (i 1) 0 39 _ (congrArg (fun a : ℕ => ![a, 39]) (row0 i)) (by decide) _ _ _ j, ?_⟩
  refine ⟨fun j => wPiece arg2 harg2 arg6 harg6 s w (i 1) 0 38 _ (congrArg (fun a : ℕ => ![a, 38]) (row0 i)) (by decide) _ _ _ j, ?_⟩
  refine ⟨fun j => wPiece arg2 harg2 arg6 harg6 s w (i 1) 0 37 _ (congrArg (fun a : ℕ => ![a, 37]) (row0 i)) (by decide) _ _ _ j, ?_⟩
  refine ⟨fun j => wPiece arg2 harg2 arg6 harg6 s w (i 1) 0 36 _ (congrArg (fun a : ℕ => ![a, 36]) (row0 i)) (by decide) _ _ _ j, ?_⟩
  refine ⟨fun j => wPiece arg2 harg2 arg6 harg6 s w (i 1) 0 35 _ (congrArg (fun a : ℕ => ![a, 35]) (row0 i)) (by decide) _ _ _ j, ?_⟩
  refine ⟨fun j => wPiece arg2 harg2 arg6 harg6 s w (i 1) 0 34 _ (congrArg (fun a : ℕ => ![a, 34]) (row0 i)) (by decide) _ _ _ j, ?_⟩
  refine ⟨fun j => wPiece arg2 harg2 arg6 harg6 s w (i 1) 0 33 _ (congrArg (fun a : ℕ => ![a, 33]) (row0 i)) (by decide) _ _ _ j, ?_⟩
  refine ⟨fun j => wPiece arg2 harg2 arg6 harg6 s w (i 1) 0 32 _ (congrArg (fun a : ℕ => ![a, 32]) (row0 i)) (by decide) _ _ _ j, ?_⟩
  refine ⟨fun j => wPiece arg2 harg2 arg6 harg6 s w (i 1) 0 31 _ (congrArg (fun a : ℕ => ![a, 31]) (row0 i)) (by decide) _ _ _ j, ?_⟩
  refine ⟨fun j => wPiece arg2 harg2 arg6 harg6 s w (i 1) 0 30 _ (congrArg (fun a : ℕ => ![a, 30]) (row0 i)) (by decide) _ _ _ j, ?_⟩
  refine ⟨fun j => wPiece arg2 harg2 arg6 harg6 s w (i 1) 0 29 _ (congrArg (fun a : ℕ => ![a, 29]) (row0 i)) (by decide) _ _ _ j, ?_⟩
  refine ⟨fun j => wPiece arg2 harg2 arg6 harg6 s w (i 1) 0 28 _ (congrArg (fun a : ℕ => ![a, 28]) (row0 i)) (by decide) _ _ _ j, ?_⟩
  refine ⟨fun j => wPiece arg2 harg2 arg6 harg6 s w (i 1) 0 27 _ (congrArg (fun a : ℕ => ![a, 27]) (row0 i)) (by decide) _ _ _ j, ?_⟩
  refine ⟨fun j => wPiece arg2 harg2 arg6 harg6 s w (i 1) 0 26 _ (congrArg (fun a : ℕ => ![a, 26]) (row0 i)) (by decide) _ _ _ j, ?_⟩
  refine ⟨fun j => wPiece arg2 harg2 arg6 harg6 s w (i 1) 0 25 _ (congrArg (fun a : ℕ => ![a, 25]) (row0 i)) (by decide) _ _ _ j, ?_⟩
  refine ⟨fun j => wPiece arg2 harg2 arg6 harg6 s w (i 1) 0 24 _ (congrArg (fun a : ℕ => ![a, 24]) (row0 i)) (by decide) _ _ _ j, ?_⟩
  refine ⟨fun j => wPiece arg2 harg2 arg6 harg6 s w (i 1) 0 23 _ (congrArg (fun a : ℕ => ![a, 23]) (row0 i)) (by decide) _ _ _ j, ?_⟩
  refine ⟨fun j => wPiece arg2 harg2 arg6 harg6 s w (i 1) 0 22 _ (congrArg (fun a : ℕ => ![a, 22]) (row0 i)) (by decide) _ _ _ j, ?_⟩
  refine ⟨fun j => wPiece arg2 harg2 arg6 harg6 s w (i 1) 0 21 _ (congrArg (fun a : ℕ => ![a, 21]) (row0 i)) (by decide) _ _ _ j, ?_⟩
  refine ⟨fun j => wPiece arg2 harg2 arg6 harg6 s w (i 1) 0 20 _ (congrArg (fun a : ℕ => ![a, 20]) (row0 i)) (by decide) _ _ _ j, ?_⟩
  refine ⟨fun j => wPiece arg2 harg2 arg6 harg6 s w (i 1) 0 19 _ (congrArg (fun a : ℕ => ![a, 19]) (row0 i)) (by decide) _ _ _ j, ?_⟩
  refine ⟨fun j => wPiece arg2 harg2 arg6 harg6 s w (i 1) 0 18 _ (congrArg (fun a : ℕ => ![a, 18]) (row0 i)) (by decide) _ _ _ j, ?_⟩
  refine ⟨fun j => wPiece arg2 harg2 arg6 harg6 s w (i 1) 0 17 _ (congrArg (fun a : ℕ => ![a, 17]) (row0 i)) (by decide) _ _ _ j, ?_⟩
  refine ⟨fun j => wPiece arg2 harg2 arg6 harg6 s w (i 1) 0 16 _ (congrArg (fun a : ℕ => ![a, 16]) (row0 i)) (by decide) _ _ _ j, ?_⟩
  refine ⟨fun j => wPiece arg2 harg2 arg6 harg6 s w (i 1) 0 15 _ (congrArg (fun a : ℕ => ![a, 15]) (row0 i)) (by decide) _ _ _ j, ?_⟩
  refine ⟨fun j => wPiece arg2 harg2 arg6 harg6 s w (i 1) 0 14 _ (congrArg (fun a : ℕ => ![a, 14]) (row0 i)) (by decide) _ _ _ j, ?_⟩
  refine ⟨fun j => wPiece arg2 harg2 arg6 harg6 s w (i 1) 0 13 _ (congrArg (fun a : ℕ => ![a, 13]) (row0 i)) (by decide) _ _ _ j, ?_⟩
  refine ⟨fun j => wPiece arg2 harg2 arg6 harg6 s w (i 1) 0 12 _ (congrArg (fun a : ℕ => ![a, 12]) (row0 i)) (by decide) _ _ _ j, ?_⟩
  refine ⟨fun j => wPiece arg2 harg2 arg6 harg6 s w (i 1) 0 11 _ (congrArg (fun a : ℕ => ![a, 11]) (row0 i)) (by decide) _ _ _ j, ?_⟩
  refine ⟨fun j => wPiece arg2 harg2 arg6 harg6 s w (i 1) 0 10 _ (congrArg (fun a : ℕ => ![a, 10]) (row0 i)) (by decide) _ _ _ j, ?_⟩
  refine ⟨fun j => wPiece arg2 harg2 arg6 harg6 s w (i 1) 0 9 _ (congrArg (fun a : ℕ => ![a, 9]) (row0 i)) (by decide) _ _ _ j, ?_⟩
  refine ⟨fun j => wPiece arg2 harg2 arg6 harg6 s w (i 1) 0 8 _ (congrArg (fun a : ℕ => ![a, 8]) (row0 i)) (by decide) _ _ _ j, ?_⟩
  refine ⟨fun j => wPiece arg2 harg2 arg6 harg6 s w (i 1) 0 7 _ (congrArg (fun a : ℕ => ![a, 7]) (row0 i)) (by decide) _ _ _ j, ?_⟩
  refine ⟨fun j => wPiece arg2 harg2 arg6 harg6 s w (i 1) 0 6 _ (congrArg (fun a : ℕ => ![a, 6]) (row0 i)) (by decide) _ _ _ j, ?_⟩
  refine ⟨fun j => wPiece arg2 harg2 arg6 harg6 s w (i 1) 0 5 _ (congrArg (fun a : ℕ => ![a, 5]) (row0 i)) (by decide) _ _ _ j, ?_⟩
  refine ⟨fun j => wPiece arg2 harg2 arg6 harg6 s w (i 1) 0 4 _ (congrArg (fun a : ℕ => ![a, 4]) (row0 i)) (by decide) _ _ _ j, ?_⟩
  refine ⟨fun j => wPiece arg2 harg2 arg6 harg6 s w (i 1) 0 3 _ (congrArg (fun a : ℕ => ![a, 3]) (row0 i)) (by decide) _ _ _ j, ?_⟩
  refine ⟨fun j => wPiece arg2 harg2 arg6 harg6 s w (i 1) 0 2 _ (congrArg (fun a : ℕ => ![a, 2]) (row0 i)) (by decide) _ _ _ j, ?_⟩
  refine ⟨fun j => wPiece arg2 harg2 arg6 harg6 s w (i 1) 0 1 _ (congrArg (fun a : ℕ => ![a, 1]) (row0 i)) (by decide) _ _ _ j, ?_⟩
  refine ⟨fun j => wPiece arg2 harg2 arg6 harg6 s w (i 1) 0 0 _ (congrArg (fun a : ℕ => ![a, 0]) (row0 i)) (by decide) _ _ _ j, ?_⟩
  exact trivial

theorem uPiecesA (c : Dev nD) (i : grid0.Coords) (arg3 : Memref sig .tc .smem S16x54 .f32) (harg3 : arg3.IsWhole) (arg7 : Memref sig .tc .vmem S256x6912 .fp8e4m3)
    (harg7 : arg7.IsWhole) (s : Vec Ideal S16x54 .f32) (w : Vec Ideal S256x6912 .fp8e4m3) :
    View.PiecesOf (wRows (i 1) w s) (kernelRun0_A.sl.HS2_108 (F := Ideal) c i arg3 harg3 arg7 harg7 s w) := by
  unfold kernelRun0_A.sl.HS2_108
  refine ⟨fun j => wPiece arg3 harg3 arg7 harg7 s w (i 1) 1 53 _ (congrArg (fun a : ℕ => ![a, 53]) (row1 i)) (by decide) _ _ _ j, ?_⟩
  refine ⟨fun j => wPiece arg3 harg3 arg7 harg7 s w (i 1) 1 52 _ (congrArg (fun a : ℕ => ![a, 52]) (row1 i)) (by decide) _ _ _ j, ?_⟩
  refine ⟨fun j => wPiece arg3 harg3 arg7 harg7 s w (i 1) 1 51 _ (congrArg (fun a : ℕ => ![a, 51]) (row1 i)) (by decide) _ _ _ j, ?_⟩
  refine ⟨fun j => wPiece arg3 harg3 arg7 harg7 s w (i 1) 1 50 _ (congrArg (fun a : ℕ => ![a, 50]) (row1 i)) (by decide) _ _ _ j, ?_⟩
  refine ⟨fun j => wPiece arg3 harg3 arg7 harg7 s w (i 1) 1 49 _ (congrArg (fun a : ℕ => ![a, 49]) (row1 i)) (by decide) _ _ _ j, ?_⟩
  refine ⟨fun j => wPiece arg3 harg3 arg7 harg7 s w (i 1) 1 48 _ (congrArg (fun a : ℕ => ![a, 48]) (row1 i)) (by decide) _ _ _ j, ?_⟩
  refine ⟨fun j => wPiece arg3 harg3 arg7 harg7 s w (i 1) 1 47 _ (congrArg (fun a : ℕ => ![a, 47]) (row1 i)) (by decide) _ _ _ j, ?_⟩
  refine ⟨fun j => wPiece arg3 harg3 arg7 harg7 s w (i 1) 1 46 _ (congrArg (fun a : ℕ => ![a, 46]) (row1 i)) (by decide) _ _ _ j, ?_⟩
  refine ⟨fun j => wPiece arg3 harg3 arg7 harg7 s w (i 1) 1 45 _ (congrArg (fun a : ℕ => ![a, 45]) (row1 i)) (by decide) _ _ _ j, ?_⟩
  refine ⟨fun j => wPiece arg3 harg3 arg7 harg7 s w (i 1) 1 44 _ (congrArg (fun a : ℕ => ![a, 44]) (row1 i)) (by decide) _ _ _ j, ?_⟩
  refine ⟨fun j => wPiece arg3 harg3 arg7 harg7 s w (i 1) 1 43 _ (congrArg (fun a : ℕ => ![a, 43]) (row1 i)) (by decide) _ _ _ j, ?_⟩
  refine ⟨fun j => wPiece arg3 harg3 arg7 harg7 s w (i 1) 1 42 _ (congrArg (fun a : ℕ => ![a, 42]) (row1 i)) (by decide) _ _ _ j, ?_⟩
  refine ⟨fun j => wPiece arg3 harg3 arg7 harg7 s w (i 1) 1 41 _ (congrArg (fun a : ℕ => ![a, 41]) (row1 i)) (by decide) _ _ _ j, ?_⟩
  refine ⟨fun j => wPiece arg3 harg3 arg7 harg7 s w (i 1) 1 40 _ (congrArg (fun a : ℕ => ![a, 40]) (row1 i)) (by decide) _ _ _ j, ?_⟩
  refine ⟨fun j => wPiece arg3 harg3 arg7 harg7 s w (i 1) 1 39 _ (congrArg (fun a : ℕ => ![a, 39]) (row1 i)) (by decide) _ _ _ j, ?_⟩
  refine ⟨fun j => wPiece arg3 harg3 arg7 harg7 s w (i 1) 1 38 _ (congrArg (fun a : ℕ => ![a, 38]) (row1 i)) (by decide) _ _ _ j, ?_⟩
  refine ⟨fun j => wPiece arg3 harg3 arg7 harg7 s w (i 1) 1 37 _ (congrArg (fun a : ℕ => ![a, 37]) (row1 i)) (by decide) _ _ _ j, ?_⟩
  refine ⟨fun j => wPiece arg3 harg3 arg7 harg7 s w (i 1) 1 36 _ (congrArg (fun a : ℕ => ![a, 36]) (row1 i)) (by decide) _ _ _ j, ?_⟩
  refine ⟨fun j => wPiece arg3 harg3 arg7 harg7 s w (i 1) 1 35 _ (congrArg (fun a : ℕ => ![a, 35]) (row1 i)) (by decide) _ _ _ j, ?_⟩
  refine ⟨fun j => wPiece arg3 harg3 arg7 harg7 s w (i 1) 1 34 _ (congrArg (fun a : ℕ => ![a, 34]) (row1 i)) (by decide) _ _ _ j, ?_⟩
  refine ⟨fun j => wPiece arg3 harg3 arg7 harg7 s w (i 1) 1 33 _ (congrArg (fun a : ℕ => ![a, 33]) (row1 i)) (by decide) _ _ _ j, ?_⟩
  refine ⟨fun j => wPiece arg3 harg3 arg7 harg7 s w (i 1) 1 32 _ (congrArg (fun a : ℕ => ![a, 32]) (row1 i)) (by decide) _ _ _ j, ?_⟩
  refine ⟨fun j => wPiece arg3 harg3 arg7 harg7 s w (i 1) 1 31 _ (congrArg (fun a : ℕ => ![a, 31]) (row1 i)) (by decide) _ _ _ j, ?_⟩
  refine ⟨fun j => wPiece arg3 harg3 arg7 harg7 s w (i 1) 1 30 _ (congrArg (fun a : ℕ => ![a, 30]) (row1 i)) (by decide) _ _ _ j, ?_⟩
  refine ⟨fun j => wPiece arg3 harg3 arg7 harg7 s w (i 1) 1 29 _ (congrArg (fun a : ℕ => ![a, 29]) (row1 i)) (by decide) _ _ _ j, ?_⟩
  refine ⟨fun j => wPiece arg3 harg3 arg7 harg7 s w (i 1) 1 28 _ (congrArg (fun a : ℕ => ![a, 28]) (row1 i)) (by decide) _ _ _ j, ?_⟩
  refine ⟨fun j => wPiece arg3 harg3 arg7 harg7 s w (i 1) 1 27 _ (congrArg (fun a : ℕ => ![a, 27]) (row1 i)) (by decide) _ _ _ j, ?_⟩
  refine ⟨fun j => wPiece arg3 harg3 arg7 harg7 s w (i 1) 1 26 _ (congrArg (fun a : ℕ => ![a, 26]) (row1 i)) (by decide) _ _ _ j, ?_⟩
  refine ⟨fun j => wPiece arg3 harg3 arg7 harg7 s w (i 1) 1 25 _ (congrArg (fun a : ℕ => ![a, 25]) (row1 i)) (by decide) _ _ _ j, ?_⟩
  refine ⟨fun j => wPiece arg3 harg3 arg7 harg7 s w (i 1) 1 24 _ (congrArg (fun a : ℕ => ![a, 24]) (row1 i)) (by decide) _ _ _ j, ?_⟩
  refine ⟨fun j => wPiece arg3 harg3 arg7 harg7 s w (i 1) 1 23 _ (congrArg (fun a : ℕ => ![a, 23]) (row1 i)) (by decide) _ _ _ j, ?_⟩
  refine ⟨fun j => wPiece arg3 harg3 arg7 harg7 s w (i 1) 1 22 _ (congrArg (fun a : ℕ => ![a, 22]) (row1 i)) (by decide) _ _ _ j, ?_⟩
  refine ⟨fun j => wPiece arg3 harg3 arg7 harg7 s w (i 1) 1 21 _ (congrArg (fun a : ℕ => ![a, 21]) (row1 i)) (by decide) _ _ _ j, ?_⟩
  refine ⟨fun j => wPiece arg3 harg3 arg7 harg7 s w (i 1) 1 20 _ (congrArg (fun a : ℕ => ![a, 20]) (row1 i)) (by decide) _ _ _ j, ?_⟩
  refine ⟨fun j => wPiece arg3 harg3 arg7 harg7 s w (i 1) 1 19 _ (congrArg (fun a : ℕ => ![a, 19]) (row1 i)) (by decide) _ _ _ j, ?_⟩
  refine ⟨fun j => wPiece arg3 harg3 arg7 harg7 s w (i 1) 1 18 _ (congrArg (fun a : ℕ => ![a, 18]) (row1 i)) (by decide) _ _ _ j, ?_⟩
  refine ⟨fun j => wPiece arg3 harg3 arg7 harg7 s w (i 1) 1 17 _ (congrArg (fun a : ℕ => ![a, 17]) (row1 i)) (by decide) _ _ _ j, ?_⟩
  refine ⟨fun j => wPiece arg3 harg3 arg7 harg7 s w (i 1) 1 16 _ (congrArg (fun a : ℕ => ![a, 16]) (row1 i)) (by decide) _ _ _ j, ?_⟩
  refine ⟨fun j => wPiece arg3 harg3 arg7 harg7 s w (i 1) 1 15 _ (congrArg (fun a : ℕ => ![a, 15]) (row1 i)) (by decide) _ _ _ j, ?_⟩
  refine ⟨fun j => wPiece arg3 harg3 arg7 harg7 s w (i 1) 1 14 _ (congrArg (fun a : ℕ => ![a, 14]) (row1 i)) (by decide) _ _ _ j, ?_⟩
  refine ⟨fun j => wPiece arg3 harg3 arg7 harg7 s w (i 1) 1 13 _ (congrArg (fun a : ℕ => ![a, 13]) (row1 i)) (by decide) _ _ _ j, ?_⟩
  refine ⟨fun j => wPiece arg3 harg3 arg7 harg7 s w (i 1) 1 12 _ (congrArg (fun a : ℕ => ![a, 12]) (row1 i)) (by decide) _ _ _ j, ?_⟩
  refine ⟨fun j => wPiece arg3 harg3 arg7 harg7 s w (i 1) 1 11 _ (congrArg (fun a : ℕ => ![a, 11]) (row1 i)) (by decide) _ _ _ j, ?_⟩
  refine ⟨fun j => wPiece arg3 harg3 arg7 harg7 s w (i 1) 1 10 _ (congrArg (fun a : ℕ => ![a, 10]) (row1 i)) (by decide) _ _ _ j, ?_⟩
  refine ⟨fun j => wPiece arg3 harg3 arg7 harg7 s w (i 1) 1 9 _ (congrArg (fun a : ℕ => ![a, 9]) (row1 i)) (by decide) _ _ _ j, ?_⟩
  refine ⟨fun j => wPiece arg3 harg3 arg7 harg7 s w (i 1) 1 8 _ (congrArg (fun a : ℕ => ![a, 8]) (row1 i)) (by decide) _ _ _ j, ?_⟩
  refine ⟨fun j => wPiece arg3 harg3 arg7 harg7 s w (i 1) 1 7 _ (congrArg (fun a : ℕ => ![a, 7]) (row1 i)) (by decide) _ _ _ j, ?_⟩
  refine ⟨fun j => wPiece arg3 harg3 arg7 harg7 s w (i 1) 1 6 _ (congrArg (fun a : ℕ => ![a, 6]) (row1 i)) (by decide) _ _ _ j, ?_⟩
  refine ⟨fun j => wPiece arg3 harg3 arg7 harg7 s w (i 1) 1 5 _ (congrArg (fun a : ℕ => ![a, 5]) (row1 i)) (by decide) _ _ _ j, ?_⟩
  refine ⟨fun j => wPiece arg3 harg3 arg7 harg7 s w (i 1) 1 4 _ (congrArg (fun a : ℕ => ![a, 4]) (row1 i)) (by decide) _ _ _ j, ?_⟩
  refine ⟨fun j => wPiece arg3 harg3 arg7 harg7 s w (i 1) 1 3 _ (congrArg (fun a : ℕ => ![a, 3]) (row1 i)) (by decide) _ _ _ j, ?_⟩
  refine ⟨fun j => wPiece arg3 harg3 arg7 harg7 s w (i 1) 1 2 _ (congrArg (fun a : ℕ => ![a, 2]) (row1 i)) (by decide) _ _ _ j, ?_⟩
  refine ⟨fun j => wPiece arg3 harg3 arg7 harg7 s w (i 1) 1 1 _ (congrArg (fun a : ℕ => ![a, 1]) (row1 i)) (by decide) _ _ _ j, ?_⟩
  refine ⟨fun j => wPiece arg3 harg3 arg7 harg7 s w (i 1) 1 0 _ (congrArg (fun a : ℕ => ![a, 0]) (row1 i)) (by decide) _ _ _ j, ?_⟩
  refine ⟨fun j => wPiece arg3 harg3 arg7 harg7 s w (i 1) 0 53 _ (congrArg (fun a : ℕ => ![a, 53]) (row0 i)) (by decide) _ _ _ j, ?_⟩
  refine ⟨fun j => wPiece arg3 harg3 arg7 harg7 s w (i 1) 0 52 _ (congrArg (fun a : ℕ => ![a, 52]) (row0 i)) (by decide) _ _ _ j, ?_⟩
  refine ⟨fun j => wPiece arg3 harg3 arg7 harg7 s w (i 1) 0 51 _ (congrArg (fun a : ℕ => ![a, 51]) (row0 i)) (by decide) _ _ _ j, ?_⟩
  refine ⟨fun j => wPiece arg3 harg3 arg7 harg7 s w (i 1) 0 50 _ (congrArg (fun a : ℕ => ![a, 50]) (row0 i)) (by decide) _ _ _ j, ?_⟩
  refine ⟨fun j => wPiece arg3 harg3 arg7 harg7 s w (i 1) 0 49 _ (congrArg (fun a : ℕ => ![a, 49]) (row0 i)) (by decide) _ _ _ j, ?_⟩
  refine ⟨fun j => wPiece arg3 harg3 arg7 harg7 s w (i 1) 0 48 _ (congrArg (fun a : ℕ => ![a, 48]) (row0 i)) (by decide) _ _ _ j, ?_⟩
  refine ⟨fun j => wPiece arg3 harg3 arg7 harg7 s w (i 1) 0 47 _ (congrArg (fun a : ℕ => ![a, 47]) (row0 i)) (by decide) _ _ _ j, ?_⟩
  refine ⟨fun j => wPiece arg3 harg3 arg7 harg7 s w (i 1) 0 46 _ (congrArg (fun a : ℕ => ![a, 46]) (row0 i)) (by decide) _ _ _ j, ?_⟩
  refine ⟨fun j => wPiece arg3 harg3 arg7 harg7 s w (i 1) 0 45 _ (congrArg (fun a : ℕ => ![a, 45]) (row0 i)) (by decide) _ _ _ j, ?_⟩
  refine ⟨fun j => wPiece arg3 harg3 arg7 harg7 s w (i 1) 0 44 _ (congrArg (fun a : ℕ => ![a, 44]) (row0 i)) (by decide) _ _ _ j, ?_⟩
  refine ⟨fun j => wPiece arg3 harg3 arg7 harg7 s w (i 1) 0 43 _ (congrArg (fun a : ℕ => ![a, 43]) (row0 i)) (by decide) _ _ _ j, ?_⟩
  refine ⟨fun j => wPiece arg3 harg3 arg7 harg7 s w (i 1) 0 42 _ (congrArg (fun a : ℕ => ![a, 42]) (row0 i)) (by decide) _ _ _ j, ?_⟩
  refine ⟨fun j => wPiece arg3 harg3 arg7 harg7 s w (i 1) 0 41 _ (congrArg (fun a : ℕ => ![a, 41]) (row0 i)) (by decide) _ _ _ j, ?_⟩
  refine ⟨fun j => wPiece arg3 harg3 arg7 harg7 s w (i 1) 0 40 _ (congrArg (fun a : ℕ => ![a, 40]) (row0 i)) (by decide) _ _ _ j, ?_⟩
  refine ⟨fun j => wPiece arg3 harg3 arg7 harg7 s w (i 1) 0 39 _ (congrArg (fun a : ℕ => ![a, 39]) (row0 i)) (by decide) _ _ _ j, ?_⟩
  refine ⟨fun j => wPiece arg3 harg3 arg7 harg7 s w (i 1) 0 38 _ (congrArg (fun a : ℕ => ![a, 38]) (row0 i)) (by decide) _ _ _ j, ?_⟩
  refine ⟨fun j => wPiece arg3 harg3 arg7 harg7 s w (i 1) 0 37 _ (congrArg (fun a : ℕ => ![a, 37]) (row0 i)) (by decide) _ _ _ j, ?_⟩
  refine ⟨fun j => wPiece arg3 harg3 arg7 harg7 s w (i 1) 0 36 _ (congrArg (fun a : ℕ => ![a, 36]) (row0 i)) (by decide) _ _ _ j, ?_⟩
  refine ⟨fun j => wPiece arg3 harg3 arg7 harg7 s w (i 1) 0 35 _ (congrArg (fun a : ℕ => ![a, 35]) (row0 i)) (by decide) _ _ _ j, ?_⟩
  refine ⟨fun j => wPiece arg3 harg3 arg7 harg7 s w (i 1) 0 34 _ (congrArg (fun a : ℕ => ![a, 34]) (row0 i)) (by decide) _ _ _ j, ?_⟩
  refine ⟨fun j => wPiece arg3 harg3 arg7 harg7 s w (i 1) 0 33 _ (congrArg (fun a : ℕ => ![a, 33]) (row0 i)) (by decide) _ _ _ j, ?_⟩
  refine ⟨fun j => wPiece arg3 harg3 arg7 harg7 s w (i 1) 0 32 _ (congrArg (fun a : ℕ => ![a, 32]) (row0 i)) (by decide) _ _ _ j, ?_⟩
  refine ⟨fun j => wPiece arg3 harg3 arg7 harg7 s w (i 1) 0 31 _ (congrArg (fun a : ℕ => ![a, 31]) (row0 i)) (by decide) _ _ _ j, ?_⟩
  refine ⟨fun j => wPiece arg3 harg3 arg7 harg7 s w (i 1) 0 30 _ (congrArg (fun a : ℕ => ![a, 30]) (row0 i)) (by decide) _ _ _ j, ?_⟩
  refine ⟨fun j => wPiece arg3 harg3 arg7 harg7 s w (i 1) 0 29 _ (congrArg (fun a : ℕ => ![a, 29]) (row0 i)) (by decide) _ _ _ j, ?_⟩
  refine ⟨fun j => wPiece arg3 harg3 arg7 harg7 s w (i 1) 0 28 _ (congrArg (fun a : ℕ => ![a, 28]) (row0 i)) (by decide) _ _ _ j, ?_⟩
  refine ⟨fun j => wPiece arg3 harg3 arg7 harg7 s w (i 1) 0 27 _ (congrArg (fun a : ℕ => ![a, 27]) (row0 i)) (by decide) _ _ _ j, ?_⟩
  refine ⟨fun j => wPiece arg3 harg3 arg7 harg7 s w (i 1) 0 26 _ (congrArg (fun a : ℕ => ![a, 26]) (row0 i)) (by decide) _ _ _ j, ?_⟩
  refine ⟨fun j => wPiece arg3 harg3 arg7 harg7 s w (i 1) 0 25 _ (congrArg (fun a : ℕ => ![a, 25]) (row0 i)) (by decide) _ _ _ j, ?_⟩
  refine ⟨fun j => wPiece arg3 harg3 arg7 harg7 s w (i 1) 0 24 _ (congrArg (fun a : ℕ => ![a, 24]) (row0 i)) (by decide) _ _ _ j, ?_⟩
  refine ⟨fun j => wPiece arg3 harg3 arg7 harg7 s w (i 1) 0 23 _ (congrArg (fun a : ℕ => ![a, 23]) (row0 i)) (by decide) _ _ _ j, ?_⟩
  refine ⟨fun j => wPiece arg3 harg3 arg7 harg7 s w (i 1) 0 22 _ (congrArg (fun a : ℕ => ![a, 22]) (row0 i)) (by decide) _ _ _ j, ?_⟩
  refine ⟨fun j => wPiece arg3 harg3 arg7 harg7 s w (i 1) 0 21 _ (congrArg (fun a : ℕ => ![a, 21]) (row0 i)) (by decide) _ _ _ j, ?_⟩
  refine ⟨fun j => wPiece arg3 harg3 arg7 harg7 s w (i 1) 0 20 _ (congrArg (fun a : ℕ => ![a, 20]) (row0 i)) (by decide) _ _ _ j, ?_⟩
  refine ⟨fun j => wPiece arg3 harg3 arg7 harg7 s w (i 1) 0 19 _ (congrArg (fun a : ℕ => ![a, 19]) (row0 i)) (by decide) _ _ _ j, ?_⟩
  refine ⟨fun j => wPiece arg3 harg3 arg7 harg7 s w (i 1) 0 18 _ (congrArg (fun a : ℕ => ![a, 18]) (row0 i)) (by decide) _ _ _ j, ?_⟩
  refine ⟨fun j => wPiece arg3 harg3 arg7 harg7 s w (i 1) 0 17 _ (congrArg (fun a : ℕ => ![a, 17]) (row0 i)) (by decide) _ _ _ j, ?_⟩
  refine ⟨fun j => wPiece arg3 harg3 arg7 harg7 s w (i 1) 0 16 _ (congrArg (fun a : ℕ => ![a, 16]) (row0 i)) (by decide) _ _ _ j, ?_⟩
  refine ⟨fun j => wPiece arg3 harg3 arg7 harg7 s w (i 1) 0 15 _ (congrArg (fun a : ℕ => ![a, 15]) (row0 i)) (by decide) _ _ _ j, ?_⟩
  refine ⟨fun j => wPiece arg3 harg3 arg7 harg7 s w (i 1) 0 14 _ (congrArg (fun a : ℕ => ![a, 14]) (row0 i)) (by decide) _ _ _ j, ?_⟩
  refine ⟨fun j => wPiece arg3 harg3 arg7 harg7 s w (i 1) 0 13 _ (congrArg (fun a : ℕ => ![a, 13]) (row0 i)) (by decide) _ _ _ j, ?_⟩
  refine ⟨fun j => wPiece arg3 harg3 arg7 harg7 s w (i 1) 0 12 _ (congrArg (fun a : ℕ => ![a, 12]) (row0 i)) (by decide) _ _ _ j, ?_⟩
  refine ⟨fun j => wPiece arg3 harg3 arg7 harg7 s w (i 1) 0 11 _ (congrArg (fun a : ℕ => ![a, 11]) (row0 i)) (by decide) _ _ _ j, ?_⟩
  refine ⟨fun j => wPiece arg3 harg3 arg7 harg7 s w (i 1) 0 10 _ (congrArg (fun a : ℕ => ![a, 10]) (row0 i)) (by decide) _ _ _ j, ?_⟩
  refine ⟨fun j => wPiece arg3 harg3 arg7 harg7 s w (i 1) 0 9 _ (congrArg (fun a : ℕ => ![a, 9]) (row0 i)) (by decide) _ _ _ j, ?_⟩
  refine ⟨fun j => wPiece arg3 harg3 arg7 harg7 s w (i 1) 0 8 _ (congrArg (fun a : ℕ => ![a, 8]) (row0 i)) (by decide) _ _ _ j, ?_⟩
  refine ⟨fun j => wPiece arg3 harg3 arg7 harg7 s w (i 1) 0 7 _ (congrArg (fun a : ℕ => ![a, 7]) (row0 i)) (by decide) _ _ _ j, ?_⟩
  refine ⟨fun j => wPiece arg3 harg3 arg7 harg7 s w (i 1) 0 6 _ (congrArg (fun a : ℕ => ![a, 6]) (row0 i)) (by decide) _ _ _ j, ?_⟩
  refine ⟨fun j => wPiece arg3 harg3 arg7 harg7 s w (i 1) 0 5 _ (congrArg (fun a : ℕ => ![a, 5]) (row0 i)) (by decide) _ _ _ j, ?_⟩
  refine ⟨fun j => wPiece arg3 harg3 arg7 harg7 s w (i 1) 0 4 _ (congrArg (fun a : ℕ => ![a, 4]) (row0 i)) (by decide) _ _ _ j, ?_⟩
  refine ⟨fun j => wPiece arg3 harg3 arg7 harg7 s w (i 1) 0 3 _ (congrArg (fun a : ℕ => ![a, 3]) (row0 i)) (by decide) _ _ _ j, ?_⟩
  refine ⟨fun j => wPiece arg3 harg3 arg7 harg7 s w (i 1) 0 2 _ (congrArg (fun a : ℕ => ![a, 2]) (row0 i)) (by decide) _ _ _ j, ?_⟩
  refine ⟨fun j => wPiece arg3 harg3 arg7 harg7 s w (i 1) 0 1 _ (congrArg (fun a : ℕ => ![a, 1]) (row0 i)) (by decide) _ _ _ j, ?_⟩
  refine ⟨fun j => wPiece arg3 harg3 arg7 harg7 s w (i 1) 0 0 _ (congrArg (fun a : ℕ => ![a, 0]) (row0 i)) (by decide) _ _ _ j, ?_⟩
  exact trivial

end Cert.KernelIdeal.Hand

end
-- ==== Proof.Exponent.lean ====
/- The exponent of the quantiser's scale, on the extended reals: the number of the normal powers of two at most `y`,
   made into a biased exponent, names the same power of two as the floor of the base-two logarithm of `y`. -/
module

public import Idealize.ShloMosaic.PureOps.IdealRules

@[expose] public section

noncomputable section

namespace Cert.Exponent

open Idealize.ShloMosaic

/-- The fields of the word `k <<< 23`, for an eight-bit `k`. -/
theorem fields (k : Fin 256) :
    (BitVec.ofNat 32 k.val <<< 23).extractLsb' 31 1 = 0#1 ∧ ((BitVec.ofNat 32 k.val <<< 23).extractLsb' 23 8).toNat = k.val
      ∧ ((BitVec.ofNat 32 k.val <<< 23).extractLsb' 0 23).toNat = 0 := by
  revert k; decide

/-- The f32 word with biased exponent `k` and no fraction denotes `2 ^ (k - 127)`. -/
theorem ofBits_pow (k : ℕ) (h0 : 0 < k) (h : k < 255) :
    Ideal.ofBits .f32 (BitVec.ofNat 32 k <<< 23) = (((2 : ℝ) ^ ((k : ℤ) - 127) : ℝ) : EReal) := by
  have hf := fields ⟨k, by omega⟩
  have e : (1 : ℝ) * ((2 ^ 23 + 0 : ℕ) : ℝ) * (2 : ℝ) ^ ((k : ℤ) - (2 ^ (8 - 1) - 1) - (23 : ℕ)) = (2 : ℝ) ^ ((k : ℤ) - 127) := by
    rw [show ((2 ^ 23 + 0 : ℕ) : ℝ) = (2 : ℝ) ^ (23 : ℤ) by norm_num, one_mul, ← zpow_add₀ (by norm_num)]
    exact congrArg (fun z : ℤ => (2 : ℝ) ^ z) (by norm_num)
  show Ideal.ieee 8 23 (BitVec.ofNat 32 k <<< 23) = _
  generalize BitVec.ofNat 32 k <<< 23 = b at hf ⊢
  obtain ⟨h1, h2, h3⟩ := hf
  dsimp only at h1 h2 h3
  unfold Ideal.ieee
  rw [h1, h2, h3]
  dsimp only
  rw [if_neg (by omega), if_neg (by omega), if_neg (by decide), e]

/-- How many of the powers `2 ^ -126 … 2 ^ 119` are at most `y`. -/
def count (y : EReal) : ℕ :=
  ((Finset.univ : Finset (Fin 246)).filter fun k => (((2 : ℝ) ^ (((k.val + 1 : ℕ) : ℤ) - 127) : ℝ) : EReal) ≤ y).card

theorem count_le (y : EReal) : count y ≤ 246 := by
  refine (Finset.card_filter_le _ _).trans ?_
  simp

/-- The exponent the count stands for: zero when no normal power is at most `y`. -/
def expo (y : EReal) : ℤ := if count y = 0 then 0 else (count y : ℤ) - 126

theorem expo_bounds (y : EReal) : -125 ≤ expo y ∧ expo y ≤ 120 := by
  have := count_le y
  unfold expo; split <;> omega

/-- The floor of the base-two logarithm of a positive real. -/
def lg (y : ℝ) : ℤ := ⌊Real.log y * (1 / Real.log 2)⌋

/-- A power of two is at most `y` exactly when its exponent is at most the floor of the logarithm. -/
theorem pow_le_iff (y : ℝ) (hy : 0 < y) (j : ℤ) : (2 : ℝ) ^ j ≤ y ↔ j ≤ lg y := by
  have h2 : 0 < Real.log 2 := Real.log_pos (by norm_num)
  unfold lg
  rw [Int.le_floor, mul_one_div, le_div_iff₀ h2, ← Real.log_zpow, Real.log_le_log_iff (by positivity) hy]

/-- The count of a real `y` at least the least normal power: its binary logarithm's floor, above the exponents below. -/
theorem count_real (y : ℝ) (hy : (2 : ℝ) ^ (-126 : ℤ) ≤ y) :
    (count (y : EReal) : ℤ) = min (lg y + 127) 246 := by
  have hpos : 0 < y := lt_of_lt_of_le (by positivity) hy
  have hL : -126 ≤ lg y := by
    exact (pow_le_iff y hpos _).1 hy
  have hcard : count (y : EReal) = min (lg y + 127).toNat 246 := by
    unfold count
    have : ((Finset.univ : Finset (Fin 246)).filter fun k => (((2 : ℝ) ^ (((k.val + 1 : ℕ) : ℤ) - 127) : ℝ) : EReal) ≤ (y : EReal))
        = (Finset.univ : Finset (Fin 246)).filter fun k => k.val < (lg y + 127).toNat := by
      refine Finset.filter_congr fun k _ => ?_
      rw [EReal.coe_le_coe_iff]
      rw [pow_le_iff y hpos]; omega
    rw [this, Fin.card_filter_val_lt]
    exact min_comm _ _
  rw [hcard]
  omega

theorem count_top : count ⊤ = 246 := by
  unfold count
  simp

theorem count_small (y : EReal) (hy : y < (((2 : ℝ) ^ (-126 : ℤ) : ℝ) : EReal)) : count y = 0 := by
  unfold count
  rw [Finset.card_eq_zero, Finset.filter_eq_empty_iff]
  intro k _ hk
  refine absurd (lt_of_le_of_lt hk hy) (not_lt.2 ?_)
  rw [EReal.coe_le_coe_iff]
  exact zpow_le_zpow_right₀ (by norm_num) (by omega)

/-- The reference's exponent: `0` below the normal numbers, else the floor of the base-two logarithm plus one, at most `120`. -/
def refExpo (y : EReal) : EReal :=
  Scalar.select (Ideal.cmp .olt y (Ideal.ofBits .f32 0x00800000#32)) (Ideal.ofBits .f32 0x00000000#32)
    (min (Ideal.liftRound Int.floor (Ideal.div (Ideal.log y) ((Real.log 2 : ℝ) : EReal)) + Ideal.ofBits .f32 0x3F800000#32)
      (Ideal.ofBits .f32 0x42F00000#32))

theorem zero_word : Ideal.ofBits .f32 0x00000000#32 = 0 := by simp [Ideal.ofBits, Ideal.ieee]

theorem one_word : Ideal.ofBits .f32 0x3F800000#32 = ((1 : ℝ) : EReal) := by
  simp [Ideal.ofBits, Ideal.ieee, -EReal.coe_mul]; norm_num

theorem top_word : Ideal.ofBits .f32 0x42F00000#32 = ((120 : ℝ) : EReal) := by
  simp [Ideal.ofBits, Ideal.ieee, -EReal.coe_mul]; norm_num

theorem least_word : Ideal.ofBits .f32 0x00800000#32 = (((2 : ℝ) ^ (-126 : ℤ) : ℝ) : EReal) := by
  have := ofBits_pow 1 (by norm_num) (by norm_num)
  rw [show (0x00800000#32 : BitVec 32) = BitVec.ofNat 32 1 <<< 23 by decide, this]
  norm_num

/-- THE EXPONENTS AGREE: the reference's, off the logarithm, is the count's. -/
theorem refExpo_eq (y : EReal) : refExpo y = (((expo y : ℤ) : ℝ) : EReal) := by
  unfold refExpo
  rw [zero_word, one_word, top_word, least_word]
  by_cases hs : y < (((2 : ℝ) ^ (-126 : ℤ) : ℝ) : EReal)
  · have : Ideal.cmp .olt y (((2 : ℝ) ^ (-126 : ℤ) : ℝ) : EReal) = 1#1 := by
      show BitVec.ofBool (decide _) = _
      rw [decide_eq_true hs]; rfl
    rw [this, expo, count_small y hs]
    simp [Scalar.select]
  · have : Ideal.cmp .olt y (((2 : ℝ) ^ (-126 : ℤ) : ℝ) : EReal) = 0#1 := by
      show BitVec.ofBool (decide _) = _
      rw [decide_eq_false hs]; rfl
    rw [this]
    show min _ _ = _
    have h2 : Real.log 2 ≠ 0 := (Real.log_pos (by norm_num)).ne'
    rw [Ideal.div_coe h2]
    induction y with
    | bot => exact absurd (EReal.bot_lt_coe _) hs
    | top =>
      rw [expo, count_top]
      have : Ideal.log ⊤ * ((1 / Real.log 2 : ℝ) : EReal) = ⊤ :=
        EReal.top_mul_coe_of_pos (by positivity)
      rw [this]
      show min (⊤ + ((1 : ℝ) : EReal)) _ = _
      rw [EReal.top_add_coe, min_eq_right le_top]
      norm_num
    | coe r =>
      have hr : (2 : ℝ) ^ (-126 : ℤ) ≤ r := by
        have := not_lt.1 hs
        exact_mod_cast this
      have hpos : 0 < r := lt_of_lt_of_le (by positivity) hr
      have hlog : Ideal.log (r : EReal) = ((Real.log r : ℝ) : EReal) := by
        show (if r ≤ 0 then (⊥ : EReal) else _) = _
        rw [if_neg (not_le.2 hpos)]
      rw [hlog, ← EReal.coe_mul]
      show min ((((lg r : ℤ) : ℝ) : EReal) + ((1 : ℝ) : EReal)) ((120 : ℝ) : EReal) = _
      rw [← EReal.coe_add, ← EReal.coe_strictMono.monotone.map_min]
      have hc := count_real r hr
      have hL : -126 ≤ lg r :=
        (pow_le_iff r hpos _).1 hr
      congr 1
      have : expo (r : EReal) = min (lg r + 1) 120 := by
        unfold expo; split <;> omega
      rw [this]
      push_cast
      rfl

/-- The kernel's word of the exponent, off the word of the count. -/
abbrev expoWord (b : BitVec 32) : BitVec 32 :=
  Scalar.select (IntOp.cmpi .eq b 0#32) 0#32 (IntOp.subi b 126#32)

/-- The word of `2 ^ e`, off the word of `e`. -/
abbrev powWord (e : BitVec 32) : BitVec 32 := IntOp.shli .vector (IntOp.addi e 127#32) 23#32

theorem words (c : Fin 247) :
    powWord (expoWord (BitVec.ofNat 32 c.val)) = BitVec.ofNat 32 (if c.val = 0 then 127 else c.val + 1) <<< 23
      ∧ powWord (IntOp.subi 0#32 (expoWord (BitVec.ofNat 32 c.val)))
          = BitVec.ofNat 32 (if c.val = 0 then 127 else 253 - c.val) <<< 23 := by
  revert c; decide

/-- The kernel's scale is two to the reference's exponent. -/
theorem scale_eq (y : EReal) :
    Ideal.ofBits .f32 (powWord (expoWord (BitVec.ofNat 32 (count y)))) = Ideal.exp2 (refExpo y) := by
  have hc := count_le y
  rw [refExpo_eq, (words ⟨count y, by omega⟩).1, ofBits_pow _ (by dsimp only; split <;> omega) (by dsimp only; split <;> omega)]
  show _ = ((Real.rpow 2 ((expo y : ℤ) : ℝ) : ℝ) : EReal)
  congr 1
  have : (2 : ℝ).rpow ((expo y : ℤ) : ℝ) = (2 : ℝ) ^ expo y := Real.rpow_intCast 2 _
  rw [this]
  congr 1
  unfold expo
  dsimp only
  split <;> omega

/-- The kernel's reciprocal scale is two to the negated exponent of the reference. -/
theorem inverse_eq (y : EReal) :
    Ideal.ofBits .f32 (powWord (IntOp.subi 0#32 (expoWord (BitVec.ofNat 32 (count y)))))
      = Ideal.exp2 (Ideal.ofBits .f32 0x00000000#32 - refExpo y) := by
  have hc := count_le y
  rw [refExpo_eq, zero_word, (words ⟨count y, by omega⟩).2,
    ofBits_pow _ (by dsimp only; split <;> omega) (by dsimp only; split <;> omega), zero_sub, ← EReal.coe_neg]
  show _ = ((Real.rpow 2 (-((expo y : ℤ) : ℝ)) : ℝ) : EReal)
  congr 1
  have : (2 : ℝ).rpow (-((expo y : ℤ) : ℝ)) = (2 : ℝ) ^ (-expo y) := by
    rw [← Real.rpow_intCast]; push_cast; rfl
  rw [this]
  congr 1
  unfold expo
  dsimp only
  split <;> omega

end Cert.Exponent

end
-- ==== Proof.Spec.lean ====
/- The entries both programs compute: the gated product of three rows, the level of a group of 128 values, the code of a
   value and the scale of a group. -/
module

public import proofs.«01_k».proof.Proof.Exponent
public import Idealize.ShloMosaic.Lib.IndicatorCount

@[expose] public section

noncomputable section

namespace Cert.Spec

open Idealize.ShloMosaic Cert.Exponent

/-- `silu(x · g) * (x · u)` of a row of x and a row of each weight. -/
def hid (x g u : Fin 6912 → EReal) : EReal :=
  (∑ k, x k * g k) * Ideal.logistic (∑ k, x k * g k) * ∑ k, x k * u k

/-- The largest magnitude of a group, times the f32 nearest 1/448. -/
def level (v : Fin 128 → EReal) : EReal :=
  Finset.univ.fold max (Ideal.ofBits .f32 0xFF800000#32) (fun l => max (v l) (-(v l))) * Ideal.ofBits .f32 0x3B124925#32

/-- The code of a value of a group at level `y`, before it is stored as an fp8. -/
def code (v y : EReal) : EReal :=
  min (Ideal.ofBits .f32 0x43E00000#32) (max (Ideal.ofBits .f32 0xC3E00000#32)
    (v * Ideal.exp2 (Ideal.ofBits .f32 0x00000000#32 - refExpo y)))

/-- The scale of a group at level `y`. -/
def scale (y : EReal) : EReal := Ideal.exp2 (refExpo y)

theorem ofBool_decide (P : Prop) [Decidable P] : BitVec.ofBool (decide P) = 1#1 ↔ P := by
  by_cases h : P <;> simp [h]

/-- The kernel's count of powers of two, as the word it sums. -/
theorem count_word (y : EReal) :
    Finset.fold IntOp.addi (0#32) (fun x : Fin 246 => BitVec.setWidth 32 (BitVec.ofBool (decide
      (Ideal.ofBits .f32 (IntOp.shli .vector (IntOp.addi (1#32) (BitVec.ofNat 32 x.val)) 23#32) ≤ y)))) Finset.univ
      = BitVec.ofNat 32 (count y) := by
  rw [IndicatorCount.fold_addi_setWidth_eq_card]
  unfold count
  congr 2
  refine Finset.filter_congr fun k _ => ?_
  have e : IntOp.shli .vector (IntOp.addi (1#32) (BitVec.ofNat 32 k.val)) 23#32 = BitVec.ofNat 32 (k.val + 1) <<< 23 := by
    revert k; decide
  rw [e, ofBits_pow _ (by omega) (by have := k.isLt; omega)]
  exact ofBool_decide _

end Cert.Spec

end
-- ==== Proof.Quant.lean ====
/- The kernel's gated product and its quantiser, read entry by entry. -/
module

public import proofs.«01_k».proof.Proof.Spec
public import proofs.«01_k».proof.Proof.Gen.KernelIdeal.Skeleton
public import Idealize.ShloMosaic.Lib.Pointwise
public import Idealize.ShloMosaic.Lib.IndicatorCount

@[expose] public section

set_option maxRecDepth 16384

noncomputable section

namespace Cert.KernelIdeal.Hand

open Idealize.ShloMosaic Idealize.ShloMosaic.TcCoe
open Cert.KernelIdeal.Gen
open Idealize.SL.Sem

open Cert.Spec Cert.Exponent

variable (X : Vec Ideal S512x6912 .bf16) (G U : Vec Ideal S256x6912 .bf16)

/-- An entry of the block's gated product. -/
def hBlk (p : Fin 512) (q : Fin 256) : EReal :=
  hid (fun k => X (ix2 p k)) (fun k => G (ix2 q k)) (fun k => U (ix2 q k))

theorem pay427_apply (p : Fin 512) (q : Fin 256) : k0_pay427 X G X U (ix2 p q) = hBlk X G U p q := by
  unfold k0_pay427
  pointwise
  rfl

/-- The first group's columns. -/
theorem pay429_apply (p : Fin 512) (q : Fin 128) :
    k0_pay429 X G X U (ix2 p q) = hBlk X G U p ⟨q.val, by omega⟩ := by
  unfold k0_pay429
  generalize h : k0_pay427 X G X U = H
  pointwise
  subst h
  exact (congrArg (k0_pay427 X G X U) (congrArg (ix2 p) (Fin.ext (by simp)))).trans (pay427_apply X G U p _)

/-- The second group's columns. -/
theorem pay436_apply (p : Fin 512) (q : Fin 128) :
    k0_pay436 (k0_pay427 X G X U) (ix2 p q) = hBlk X G U p ⟨128 + q.val, by omega⟩ := by
  unfold k0_pay436
  generalize h : k0_pay427 X G X U = H
  pointwise
  subst h
  exact (congrArg (k0_pay427 X G X U) (congrArg (ix2 p) (Fin.ext (by simp)))).trans (pay427_apply X G U p _)

/-- The levels of the two groups of a row. -/
def lev0 (p : Fin 512) : EReal := level fun l => hBlk X G U p ⟨l.val, by omega⟩
def lev1 (p : Fin 512) : EReal := level fun l => hBlk X G U p ⟨128 + l.val, by omega⟩

theorem pay430_apply (p : Fin 512) : k0_pay430 X G X U (ix2 p 0) = BitVec.ofNat 32 (count (lev0 X G U p)) := by
  unfold k0_pay430
  have h : ∀ q : Fin 128, k0_pay429 X G X U (ix2 p q) = hBlk X G U p ⟨q.val, by omega⟩ := pay429_apply X G U p
  generalize k0_pay429 X G X U = H at h
  pointwise
  simp only [h]
  exact count_word _

theorem pay439_apply (p : Fin 512) :
    k0_pay439 k0_pay437 (k0_pay438 (k0_pay427 X G X U)) (ix2 p 0) = expoWord (BitVec.ofNat 32 (count (lev1 X G U p))) := by
  unfold k0_pay439 k0_pay437 k0_pay438
  have h : ∀ q : Fin 128, k0_pay436 (k0_pay427 X G X U) (ix2 p q) = hBlk X G U p ⟨128 + q.val, by omega⟩ := pay436_apply X G U p
  generalize k0_pay436 (k0_pay427 X G X U) = H at h
  pointwise
  simp only [h]
  rw [← count_word]
  rfl

theorem pay433_apply (p : Fin 512) :
    k0_pay433 (k0_pay430 X G X U) (k0_pay431 X G X U) k0_pay432 (ix2 p 0) = expoWord (BitVec.ofNat 32 (count (lev0 X G U p))) := by
  unfold k0_pay433 k0_pay431 k0_pay432
  have h := pay430_apply X G U p
  generalize k0_pay430 X G X U = b at h
  pointwise
  simp only [h]

/-- The codes of the two groups. -/
theorem pay434_apply (p : Fin 512) (q : Fin 128) :
    k0_pay434 (k0_pay429 X G X U) (k0_pay430 X G X U) (k0_pay431 X G X U) k0_pay432 (ix2 p q)
      = code (hBlk X G U p ⟨q.val, by omega⟩) (lev0 X G U p) := by
  unfold k0_pay434
  have h := pay433_apply X G U p
  have h' := pay429_apply X G U p q
  generalize k0_pay433 (k0_pay430 X G X U) (k0_pay431 X G X U) k0_pay432 = b at h
  generalize k0_pay429 X G X U = H at h'
  pointwise
  rw [h, h', code, ← inverse_eq]

theorem pay440_apply (p : Fin 512) (q : Fin 128) :
    k0_pay440 (k0_pay436 (k0_pay427 X G X U)) k0_pay437 (k0_pay438 (k0_pay427 X G X U)) (ix2 p q)
      = code (hBlk X G U p ⟨128 + q.val, by omega⟩) (lev1 X G U p) := by
  unfold k0_pay440
  have h := pay439_apply X G U p
  have h' := pay436_apply X G U p q
  generalize k0_pay439 k0_pay437 (k0_pay438 (k0_pay427 X G X U)) = b at h
  generalize k0_pay436 (k0_pay427 X G X U) = H at h'
  pointwise
  rw [h, h', code, ← inverse_eq]

theorem lane1 (n : Fin 8) (q : Fin 16) :
    IntOp.cmpi .eq (BitVec.ofNat 32 q.val) (Scalar.addi (Scalar.muli (BitVec.ofNat 32 n.val) 2#32) 1#32)
      = BitVec.ofBool (decide (q.val = 2 * n.val + 1)) := by
  revert n q; decide

theorem lane0 (n : Fin 8) (q : Fin 16) :
    IntOp.cmpi .eq (BitVec.ofNat 32 q.val) (Scalar.addi (Scalar.muli (BitVec.ofNat 32 n.val) 2#32) 0#32)
      = BitVec.ofBool (decide (q.val = 2 * n.val)) := by
  revert n q; decide

theorem select_decide {α : Type} (P : Prop) [Decidable P] (a b : α) :
    Scalar.select (BitVec.ofBool (decide P)) a b = if P then a else b := by
  by_cases h : P <;> simp [h, Scalar.select]

/-- The scales after the two groups of column block `n`: lanes `2 n` and `2 n + 1` are new, the others as they were. -/
theorem scales_apply (n : Fin 8) (x7 : Vec Ideal S512x16 .f32) (p : Fin 512) (q : Fin 16) :
    k0_pay1 (F := Ideal) (BitVec.ofNat 32 n.val) (iota .tc S512x16 32 [1] iota_S512x16_d1_w32)
        (k0_pay435 (BitVec.ofNat 32 n.val) (iota .tc S512x16 32 [1] iota_S512x16_d1_w32) (k0_pay428 x7)
          (k0_pay430 X G X U) (k0_pay431 X G X U) k0_pay432)
        (k0_pay441 k0_pay437 (k0_pay438 (k0_pay427 X G X U))) 2#32 (ix2 p q)
      = if q.val = 2 * n.val + 1 then scale (lev1 X G U p) else if q.val = 2 * n.val then scale (lev0 X G U p) else x7 (ix2 p q) := by
  have h0 := pay433_apply X G U p
  have h1 := pay439_apply X G U p
  unfold k0_pay1 k0_pay435 k0_pay428 k0_pay441
  generalize k0_pay433 (k0_pay430 X G X U) (k0_pay431 X G X U) k0_pay432 = b at h0
  generalize k0_pay439 k0_pay437 (k0_pay438 (k0_pay427 X G X U)) = b' at h1
  pointwise
  rw [h0, h1, scale, scale, ← scale_eq, ← scale_eq]
  rw [lane1, lane0, select_decide, select_decide]

end Cert.KernelIdeal.Hand

end
-- ==== Proof.Blocks.lean ====
/- What the body leaves in the code block and in the scale block, off what its scratch holds. -/
module

public import proofs.«01_k».proof.Proof.Dequant
public import proofs.«01_k».proof.Proof.Quant
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Cert.KernelIdeal.Gen
open Idealize.SL.Sem
open Cert.Spec Cert.Exponent

/-- A load of a whole buffer after stores that are blocks of one function `V` and cover it reads `V`. -/
theorem readCov_whole {sig : RefSig} {κ : Kind} {sp : Space} {d0 d1 : ℕ} {e : EltTy} (v : View sig κ sp ⟨2, ![d0, d1]⟩ e)
    (L : List (View.Piece (Elt Ideal) ⟨2, ![d0, d1]⟩ e)) (V : Vec Ideal ⟨2, ![d0, d1]⟩ e) (hV : View.PiecesOf V L)
    (hc : ∀ y, ∃ p ∈ L, y ∈ p.1.set) (inb : ∀ a, (![0, 0] : Fin 2 → ℕ) a + (⟨2, ![d0, d1]⟩ : Shape).size a ≤ (⟨2, ![d0, d1]⟩ : Shape).size a) :
    v.readCov L (Rect.unit (s := ⟨2, ![d0, d1]⟩) ![0, 0] (⟨2, ![d0, d1]⟩ : Shape).size inb).toLoadRect = V := by
  rw [View.readCov_eq_canon']
  funext j
  refine (View.canon_apply_of_pieces V L hV.mem _ (hc _)).trans (congrArg V ?_)
  refine Rect.emb_eq_of_coords (Rect.unit (s := ⟨2, ![d0, d1]⟩) ![0, 0] (⟨2, ![d0, d1]⟩ : Shape).size inb) j j fun a => ?_
  fin_cases a <;> simp [Rect.unit]

/-- A load of a whole buffer known to hold `V` reads `V`. -/
theorem readAt_whole {sig : RefSig} {κ : Kind} {sp : Space} {d0 d1 : ℕ} {e : EltTy} (M : Memref sig κ sp ⟨2, ![d0, d1]⟩ e) (hM : M.IsWhole)
    (V : Vec Ideal ⟨2, ![d0, d1]⟩ e) (inb : ∀ a, (![0, 0] : Fin 2 → ℕ) a + (⟨2, ![d0, d1]⟩ : Shape).size a ≤ (⟨2, ![d0, d1]⟩ : Shape).size a) :
    View.readAt (Elt Ideal) M.view (Rect.unit (s := ⟨2, ![d0, d1]⟩) ![0, 0] (⟨2, ![d0, d1]⟩ : Shape).size inb).toLoadRect (hM.unread V) = V := by
  funext j
  refine (hM.readAt_unread V _ j).trans (congrArg V ?_)
  refine Rect.emb_eq_of_coords (Rect.unit (s := ⟨2, ![d0, d1]⟩) ![0, 0] (⟨2, ![d0, d1]⟩ : Shape).size inb) j j fun a => ?_
  fin_cases a <;> simp [Rect.unit]

theorem xb_eq (c : Dev nD) (arg4 : Memref sig .tc .vmem S512x6912 .fp8e4m3) (harg4 : arg4.IsWhole) (arg5 : Memref sig .tc .vmem S512x54 .f32)
    (harg5 : arg5.IsWhole) (arg10 : Memref sig .tc .vmem S512x6912 .bf16) (x : Vec Ideal S512x6912 .fp8e4m3) (s : Vec Ideal S512x54 .f32) :
    kernelRun0_A.sl.v2595 (F := Ideal) c arg4 harg4 arg5 harg5 arg10 x s = xRows x s :=
  readCov_whole arg10.view _ _ (xPieces c arg4 harg4 arg5 harg5 x s)
    (View.cover_of_tiledL (kernelRun0_A.sl.HS0_54 (F := Ideal) c arg4 harg4 arg5 harg5 x s) S512x128.size (by sl_kernel_rfl)) _

theorem gb_eq (c : Dev nD) (i : grid0.Coords) (arg2 : Memref sig .tc .smem S16x54 .f32) (harg2 : arg2.IsWhole) (arg6 : Memref sig .tc .vmem S256x6912 .fp8e4m3)
    (harg6 : arg6.IsWhole) (arg11 : Memref sig .tc .vmem S256x6912 .bf16) (s : Vec Ideal S16x54 .f32) (w : Vec Ideal S256x6912 .fp8e4m3) :
    kernelRun0_A.sl.v2596 (F := Ideal) c i arg2 harg2 arg6 harg6 arg11 s w = wRows (i 1) w s :=
  readCov_whole arg11.view _ _ (gPiecesA c i arg2 harg2 arg6 harg6 s w)
    (View.cover_of_tiledL (kernelRun0_A.sl.HS1_108 (F := Ideal) c i arg2 harg2 arg6 harg6 s w) S128x128.size (by sl_kernel_rfl)) _

theorem gb_eqB (c : Dev nD) (i : grid0.Coords) (arg2 : Memref sig .tc .smem S16x54 .f32) (harg2 : arg2.IsWhole) (arg6 : Memref sig .tc .vmem S256x6912 .fp8e4m3)
    (harg6 : arg6.IsWhole) (arg11 : Memref sig .tc .vmem S256x6912 .bf16) (s : Vec Ideal S16x54 .f32) (w : Vec Ideal S256x6912 .fp8e4m3) :
    kernelRun0_B.sl.v2596 (F := Ideal) c i arg2 harg2 arg6 harg6 arg11 s w = wRows (i 1) w s :=
  (show kernelRun0_B.sl.v2596 (F := Ideal) c i arg2 harg2 arg6 harg6 arg11 s w = kernelRun0_A.sl.v2596 (F := Ideal) c i arg2 harg2 arg6 harg6 arg11 s w by
    unfold kernelRun0_B.sl.v2596 kernelRun0_A.sl.v2596 kernelRun0_B.sl.HS1_108 kernelRun0_A.sl.HS1_108; rfl).trans (gb_eq c i arg2 harg2 arg6 harg6 arg11 s w)

theorem ub_eq (c : Dev nD) (i : grid0.Coords) (arg3 : Memref sig .tc .smem S16x54 .f32) (harg3 : arg3.IsWhole) (arg7 : Memref sig .tc .vmem S256x6912 .fp8e4m3)
    (harg7 : arg7.IsWhole) (arg12 : Memref sig .tc .vmem S256x6912 .bf16) (s : Vec Ideal S16x54 .f32) (w : Vec Ideal S256x6912 .fp8e4m3) :
    kernelRun0_A.sl.v2599 (F := Ideal) c i arg3 harg3 arg7 harg7 arg12 s w = wRows (i 1) w s :=
  readCov_whole arg12.view _ _ (uPiecesA c i arg3 harg3 arg7 harg7 s w)
    (View.cover_of_tiledL (kernelRun0_A.sl.HS2_108 (F := Ideal) c i arg3 harg3 arg7 harg7 s w) S128x128.size (by sl_kernel_rfl)) _

theorem ub_eqB (c : Dev nD) (i : grid0.Coords) (arg3 : Memref sig .tc .smem S16x54 .f32) (harg3 : arg3.IsWhole) (arg7 : Memref sig .tc .vmem S256x6912 .fp8e4m3)
    (harg7 : arg7.IsWhole) (arg12 : Memref sig .tc .vmem S256x6912 .bf16) (s : Vec Ideal S16x54 .f32) (w : Vec Ideal S256x6912 .fp8e4m3) :
    kernelRun0_B.sl.v2599 (F := Ideal) c i arg3 harg3 arg7 harg7 arg12 s w = wRows (i 1) w s :=
  (show kernelRun0_B.sl.v2599 (F := Ideal) c i arg3 harg3 arg7 harg7 arg12 s w = kernelRun0_A.sl.v2599 (F := Ideal) c i arg3 harg3 arg7 harg7 arg12 s w by
    unfold kernelRun0_B.sl.v2599 kernelRun0_A.sl.v2599 kernelRun0_B.sl.HS2_108 kernelRun0_A.sl.HS2_108; rfl).trans (ub_eq c i arg3 harg3 arg7 harg7 arg12 s w)

variable (X : Vec Ideal S512x6912 .bf16) (G U : Vec Ideal S256x6912 .bf16)

/-- The two stores of codes. -/
def L6of : List (View.Piece (Elt Ideal) S512x256 .fp8e4m3) :=
  [⟨Rect.unit ![0, 128] ![512, 128] inb_S512x256_S512x128_0_128,
      k0_pay440 (k0_pay436 (k0_pay427 X G X U)) k0_pay437 (k0_pay438 (k0_pay427 X G X U))⟩,
    ⟨Rect.unit ![0, 0] ![512, 128] inb_S512x256_S512x128_0_0,
      k0_pay434 (k0_pay429 X G X U) (k0_pay430 X G X U) (k0_pay431 X G X U) k0_pay432⟩]

/-- The store of scales. -/
def L7of (n : Fin 8) (x7 : Vec Ideal S512x16 .f32) : List (View.Piece (Elt Ideal) S512x16 .f32) :=
  [⟨Rect.unit ![0, 0] ![512, 16] inb_S512x16_S512x16_0_0,
      k0_pay1 (F := Ideal) (BitVec.ofNat 32 n.val) (iota .tc S512x16 32 [1] iota_S512x16_d1_w32)
        (k0_pay435 (BitVec.ofNat 32 n.val) (iota .tc S512x16 32 [1] iota_S512x16_d1_w32) (k0_pay428 x7)
          (k0_pay430 X G X U) (k0_pay431 X G X U) k0_pay432)
        (k0_pay441 k0_pay437 (k0_pay438 (k0_pay427 X G X U))) 2#32⟩]

/-- The block of codes. -/
def codesBlk : Vec Ideal S512x256 .fp8e4m3 := fun y =>
  code (hBlk X G U (y 0) (y 1)) (if (y 1).val < 128 then lev0 X G U (y 0) else lev1 X G U (y 0))

/-- The block of scales after column block `n`. -/
def scalesBlk (n : Fin 8) (x7 : Vec Ideal S512x16 .f32) : Vec Ideal S512x16 .f32 := fun y =>
  (if (y 1).val = 2 * n.val + 1 then scale (lev1 X G U (y 0)) else if (y 1).val = 2 * n.val then scale (lev0 X G U (y 0)) else x7 y : EReal)

theorem pieces6 : View.PiecesOf (codesBlk X G U) (L6of X G U) := by
  refine ⟨fun j => ?_, fun j => ?_, trivial⟩
  · obtain ⟨p, q, rfl⟩ : ∃ (p : Fin 512) (q : Fin 128), j = (ix2 p q : S512x128.Idx) := ⟨j 0, j 1, eq_ix2 j⟩
    have e : (Rect.unit (s := S512x256) ![0, 128] ![512, 128] inb_S512x256_S512x128_0_128).emb (ix2 p q)
        = (ix2 p ⟨128 + q.val, by omega⟩ : S512x256.Idx) := by
      refine Rect.emb_eq_of_coords _ _ _ fun a => ?_
      fin_cases a <;> simp [Rect.unit, ix2]
    refine (pay440_apply X G U p q).trans ((?_ : _ = codesBlk X G U (ix2 p ⟨128 + q.val, by omega⟩)).trans (congrArg (codesBlk X G U) e.symm))
    show _ = code (hBlk X G U p _) (if 128 + q.val < 128 then _ else lev1 X G U p)
    rw [if_neg (by omega)]; rfl
  · obtain ⟨p, q, rfl⟩ : ∃ (p : Fin 512) (q : Fin 128), j = (ix2 p q : S512x128.Idx) := ⟨j 0, j 1, eq_ix2 j⟩
    have e : (Rect.unit (s := S512x256) ![0, 0] ![512, 128] inb_S512x256_S512x128_0_0).emb (ix2 p q)
        = (ix2 p ⟨q.val, by omega⟩ : S512x256.Idx) := by
      refine Rect.emb_eq_of_coords _ _ _ fun a => ?_
      fin_cases a <;> simp [Rect.unit, ix2]
    refine (pay434_apply X G U p q).trans ((?_ : _ = codesBlk X G U (ix2 p ⟨q.val, by omega⟩)).trans (congrArg (codesBlk X G U) e.symm))
    show _ = code (hBlk X G U p _) (if q.val < 128 then lev0 X G U p else _)
    rw [if_pos q.isLt]; rfl

theorem pieces7 (n : Fin 8) (x7 : Vec Ideal S512x16 .f32) : View.PiecesOf (scalesBlk X G U n x7) (L7of X G U n x7) := by
  refine ⟨fun j => ?_, trivial⟩
  obtain ⟨p, q, rfl⟩ : ∃ (p : Fin 512) (q : Fin 16), j = (ix2 p q : S512x16.Idx) := ⟨j 0, j 1, eq_ix2 j⟩
  have e : (Rect.unit (s := S512x16) ![0, 0] ![512, 16] inb_S512x16_S512x16_0_0).emb (ix2 p q) = (ix2 p q : S512x16.Idx) := by
    refine Rect.emb_eq_of_coords _ _ _ fun a => ?_
    fin_cases a <;> simp [Rect.unit, ix2]
  exact (scales_apply X G U n x7 p q).trans (congrArg (scalesBlk X G U n x7) e.symm)

/-- The code block's buffer after the body. -/
theorem read6 {κ : Kind} {sp : Space} (v : View sig κ sp S512x256 .fp8e4m3) (f : v.ty.Contents (Elt Ideal)) :
    v.read (Elt Ideal) (v.writes (Elt Ideal) f (L6of X G U)) = codesBlk X G U :=
  funext fun y => View.read_writes_apply_of_pieces _ _ (codesBlk X G U) _ (pieces6 X G U).mem y
    (View.cover_of_tiledL (L6of X G U) S512x128.size (by sl_kernel_rfl) y)

/-- The scale block's buffer after the body. -/
theorem read7 {κ : Kind} {sp : Space} (v : View sig κ sp S512x16 .f32) (f : v.ty.Contents (Elt Ideal)) (n : Fin 8) (x7 : Vec Ideal S512x16 .f32) :
    v.read (Elt Ideal) (v.writes (Elt Ideal) f (L7of X G U n x7)) = scalesBlk X G U n x7 :=
  funext fun y => View.read_writes_apply_of_pieces _ _ (scalesBlk X G U n x7) _ (pieces7 X G U n x7).mem y
    (View.cover_of_tiledL (L7of X G U n x7) S512x16.size (by sl_kernel_rfl) y)

theorem L6_A (c : Dev nD) (i : grid0.Coords) (arg2 : Memref sig .tc .smem S16x54 .f32) (harg2 : arg2.IsWhole) (arg3 : Memref sig .tc .smem S16x54 .f32) (harg3 : arg3.IsWhole) (arg4 : Memref sig .tc .vmem S512x6912 .fp8e4m3) (harg4 : arg4.IsWhole) (arg5 : Memref sig .tc .vmem S512x54 .f32) (harg5 : arg5.IsWhole) (arg6 : Memref sig .tc .vmem S256x6912 .fp8e4m3) (harg6 : arg6.IsWhole) (arg7 : Memref sig .tc .vmem S256x6912 .fp8e4m3) (harg7 : arg7.IsWhole) (arg8 : Memref sig .tc .vmem S512x256 .fp8e4m3) (harg8 : arg8.IsWhole) (arg9 : Memref sig .tc .vmem S512x16 .f32) (harg9 : arg9.IsWhole) (arg10 : Memref sig .tc .vmem S512x6912 .bf16) (harg10 : arg10.IsWhole) (arg11 : Memref sig .tc .vmem S256x6912 .bf16) (harg11 : arg11.IsWhole) (arg12 : Memref sig .tc .vmem S256x6912 .bf16) (harg12 : arg12.IsWhole) (hc0 : cond0_0 i)
    (x0 : Vec Ideal S16x54 .f32) (x1 : Vec Ideal S16x54 .f32) (x2 : Vec Ideal S512x6912 .fp8e4m3) (x3 : Vec Ideal S512x54 .f32) (x4 : Vec Ideal S256x6912 .fp8e4m3) (x5 : Vec Ideal S256x6912 .fp8e4m3) (x7 : Vec Ideal S512x16 .f32) :
    (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5 x7).1 = L6of (xRows x2 x3) (wRows (i 1) x4 x0) (wRows (i 1) x5 x1) := by
  have h : (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5 x7).1 = L6of (kernelRun0_A.sl.v2595 c arg4 harg4 arg5 harg5 arg10 x2 x3) (kernelRun0_A.sl.v2596 c i arg2 harg2 arg6 harg6 arg11 x0 x4) (kernelRun0_A.sl.v2599 c i arg3 harg3 arg7 harg7 arg12 x1 x5) := rfl
  rw [h, xb_eq, gb_eq, ub_eq]

theorem L7_A (c : Dev nD) (i : grid0.Coords) (arg2 : Memref sig .tc .smem S16x54 .f32) (harg2 : arg2.IsWhole) (arg3 : Memref sig .tc .smem S16x54 .f32) (harg3 : arg3.IsWhole) (arg4 : Memref sig .tc .vmem S512x6912 .fp8e4m3) (harg4 : arg4.IsWhole) (arg5 : Memref sig .tc .vmem S512x54 .f32) (harg5 : arg5.IsWhole) (arg6 : Memref sig .tc .vmem S256x6912 .fp8e4m3) (harg6 : arg6.IsWhole) (arg7 : Memref sig .tc .vmem S256x6912 .fp8e4m3) (harg7 : arg7.IsWhole) (arg8 : Memref sig .tc .vmem S512x256 .fp8e4m3) (harg8 : arg8.IsWhole) (arg9 : Memref sig .tc .vmem S512x16 .f32) (harg9 : arg9.IsWhole) (arg10 : Memref sig .tc .vmem S512x6912 .bf16) (harg10 : arg10.IsWhole) (arg11 : Memref sig .tc .vmem S256x6912 .bf16) (harg11 : arg11.IsWhole) (arg12 : Memref sig .tc .vmem S256x6912 .bf16) (harg12 : arg12.IsWhole) (hc0 : cond0_0 i)
    (x0 : Vec Ideal S16x54 .f32) (x1 : Vec Ideal S16x54 .f32) (x2 : Vec Ideal S512x6912 .fp8e4m3) (x3 : Vec Ideal S512x54 .f32) (x4 : Vec Ideal S256x6912 .fp8e4m3) (x5 : Vec Ideal S256x6912 .fp8e4m3) (x7 : Vec Ideal S512x16 .f32) :
    (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5 x7).2.1 = L7of (xRows x2 x3) (wRows (i 1) x4 x0) (wRows (i 1) x5 x1) (i 1) x7 := by
  have h : (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5 x7).2.1 = L7of (kernelRun0_A.sl.v2595 c arg4 harg4 arg5 harg5 arg10 x2 x3) (kernelRun0_A.sl.v2596 c i arg2 harg2 arg6 harg6 arg11 x0 x4) (kernelRun0_A.sl.v2599 c i arg3 harg3 arg7 harg7 arg12 x1 x5) (i 1)
      (View.readAt (Elt Ideal) arg9.view (Rect.unit ![0, 0] S512x16.size inb_S512x16_S512x16_0_0).toLoadRect (harg9.unread x7)) := rfl
  rw [h, xb_eq, gb_eq, ub_eq, readAt_whole arg9 harg9]

theorem L6_B (c : Dev nD) (i : grid0.Coords) (arg2 : Memref sig .tc .smem S16x54 .f32) (harg2 : arg2.IsWhole) (arg3 : Memref sig .tc .smem S16x54 .f32) (harg3 : arg3.IsWhole) (arg4 : Memref sig .tc .vmem S512x6912 .fp8e4m3) (harg4 : arg4.IsWhole) (arg5 : Memref sig .tc .vmem S512x54 .f32) (harg5 : arg5.IsWhole) (arg6 : Memref sig .tc .vmem S256x6912 .fp8e4m3) (harg6 : arg6.IsWhole) (arg7 : Memref sig .tc .vmem S256x6912 .fp8e4m3) (harg7 : arg7.IsWhole) (arg8 : Memref sig .tc .vmem S512x256 .fp8e4m3) (harg8 : arg8.IsWhole) (arg9 : Memref sig .tc .vmem S512x16 .f32) (harg9 : arg9.IsWhole) (arg10 : Memref sig .tc .vmem S512x6912 .bf16) (harg10 : arg10.IsWhole) (arg11 : Memref sig .tc .vmem S256x6912 .bf16) (harg11 : arg11.IsWhole) (arg12 : Memref sig .tc .vmem S256x6912 .bf16) (harg12 : arg12.IsWhole) (hc0 : ¬cond0_0 i)
    (x0 : Vec Ideal S16x54 .f32) (x1 : Vec Ideal S16x54 .f32) (x2 : Vec Ideal S512x6912 .fp8e4m3) (x3 : Vec Ideal S512x54 .f32) (x4 : Vec Ideal S256x6912 .fp8e4m3) (x5 : Vec Ideal S256x6912 .fp8e4m3) (x7 : Vec Ideal S512x16 .f32) (xs0 : Vec Ideal S512x6912 .bf16) :
    (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 x7 xs0).1 = L6of (xs0) (wRows (i 1) x4 x0) (wRows (i 1) x5 x1) := by
  have h : (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 x7 xs0).1 = L6of (View.readAt (Elt Ideal) arg10.view (Rect.unit ![0, 0] S512x6912.size inb_S512x6912_S512x6912_0_0).toLoadRect (harg10.unread xs0)) (kernelRun0_B.sl.v2596 c i arg2 harg2 arg6 harg6 arg11 x0 x4) (kernelRun0_B.sl.v2599 c i arg3 harg3 arg7 harg7 arg12 x1 x5) := rfl
  rw [h, readAt_whole arg10 harg10, gb_eqB, ub_eqB]

theorem L7_B (c : Dev nD) (i : grid0.Coords) (arg2 : Memref sig .tc .smem S16x54 .f32) (harg2 : arg2.IsWhole) (arg3 : Memref sig .tc .smem S16x54 .f32) (harg3 : arg3.IsWhole) (arg4 : Memref sig .tc .vmem S512x6912 .fp8e4m3) (harg4 : arg4.IsWhole) (arg5 : Memref sig .tc .vmem S512x54 .f32) (harg5 : arg5.IsWhole) (arg6 : Memref sig .tc .vmem S256x6912 .fp8e4m3) (harg6 : arg6.IsWhole) (arg7 : Memref sig .tc .vmem S256x6912 .fp8e4m3) (harg7 : arg7.IsWhole) (arg8 : Memref sig .tc .vmem S512x256 .fp8e4m3) (harg8 : arg8.IsWhole) (arg9 : Memref sig .tc .vmem S512x16 .f32) (harg9 : arg9.IsWhole) (arg10 : Memref sig .tc .vmem S512x6912 .bf16) (harg10 : arg10.IsWhole) (arg11 : Memref sig .tc .vmem S256x6912 .bf16) (harg11 : arg11.IsWhole) (arg12 : Memref sig .tc .vmem S256x6912 .bf16) (harg12 : arg12.IsWhole) (hc0 : ¬cond0_0 i)
    (x0 : Vec Ideal S16x54 .f32) (x1 : Vec Ideal S16x54 .f32) (x2 : Vec Ideal S512x6912 .fp8e4m3) (x3 : Vec Ideal S512x54 .f32) (x4 : Vec Ideal S256x6912 .fp8e4m3) (x5 : Vec Ideal S256x6912 .fp8e4m3) (x7 : Vec Ideal S512x16 .f32) (xs0 : Vec Ideal S512x6912 .bf16) :
    (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 x7 xs0).2.1 = L7of (xs0) (wRows (i 1) x4 x0) (wRows (i 1) x5 x1) (i 1) x7 := by
  have h : (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 x7 xs0).2.1 = L7of (View.readAt (Elt Ideal) arg10.view (Rect.unit ![0, 0] S512x6912.size inb_S512x6912_S512x6912_0_0).toLoadRect (harg10.unread xs0)) (kernelRun0_B.sl.v2596 c i arg2 harg2 arg6 harg6 arg11 x0 x4) (kernelRun0_B.sl.v2599 c i arg3 harg3 arg7 harg7 arg12 x1 x5) (i 1)
      (View.readAt (Elt Ideal) arg9.view (Rect.unit ![0, 0] S512x16.size inb_S512x16_S512x16_0_0).toLoadRect (harg9.unread x7)) := rfl
  rw [h, readAt_whole arg10 harg10, gb_eqB, ub_eqB, readAt_whole arg9 harg9]

/-- The scratch of x after the body of a point that starts a row block. -/
theorem readS_A (c : Dev nD) (i : grid0.Coords) (arg2 : Memref sig .tc .smem S16x54 .f32) (harg2 : arg2.IsWhole) (arg3 : Memref sig .tc .smem S16x54 .f32) (harg3 : arg3.IsWhole) (arg4 : Memref sig .tc .vmem S512x6912 .fp8e4m3) (harg4 : arg4.IsWhole) (arg5 : Memref sig .tc .vmem S512x54 .f32) (harg5 : arg5.IsWhole) (arg6 : Memref sig .tc .vmem S256x6912 .fp8e4m3) (harg6 : arg6.IsWhole) (arg7 : Memref sig .tc .vmem S256x6912 .fp8e4m3) (harg7 : arg7.IsWhole) (arg8 : Memref sig .tc .vmem S512x256 .fp8e4m3) (harg8 : arg8.IsWhole) (arg9 : Memref sig .tc .vmem S512x16 .f32) (harg9 : arg9.IsWhole) (arg10 : Memref sig .tc .vmem S512x6912 .bf16) (harg10 : arg10.IsWhole) (arg11 : Memref sig .tc .vmem S256x6912 .bf16) (harg11 : arg11.IsWhole) (arg12 : Memref sig .tc .vmem S256x6912 .bf16) (harg12 : arg12.IsWhole) (hc0 : cond0_0 i)
    (x0 : Vec Ideal S16x54 .f32) (x1 : Vec Ideal S16x54 .f32) (x2 : Vec Ideal S512x6912 .fp8e4m3) (x3 : Vec Ideal S512x54 .f32) (x4 : Vec Ideal S256x6912 .fp8e4m3) (x5 : Vec Ideal S256x6912 .fp8e4m3) (x7 : Vec Ideal S512x16 .f32) (f : arg10.view.ty.Contents (Elt Ideal)) :
    arg10.view.read (Elt Ideal) (arg10.view.writes (Elt Ideal) f (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5 x7).2.2.1) = xRows x2 x3 :=
  funext fun y => View.read_writes_apply_of_pieces _ _ (xRows x2 x3) _ (xPieces c arg4 harg4 arg5 harg5 x2 x3).mem y
    (View.cover_of_tiledL (kernelRun0_A.sl.HS0_54 (F := Ideal) c arg4 harg4 arg5 harg5 x2 x3) S512x128.size (by sl_kernel_rfl) y)

end Cert.KernelIdeal.Hand

end
-- ==== Proof.Whole.lean ====
/- The two results as functions of the six arrays. -/
module

public import proofs.«01_k».proof.Proof.Spec
public import Idealize.ShloMosaic.Lib.Pointwise

@[expose] public section

noncomputable section

namespace Cert.Spec

open Idealize.ShloMosaic Cert.Exponent

variable (X : (⟨2, ![6144, 6912]⟩ : Shape).Idx → EReal) (XS : (⟨2, ![6144, 54]⟩ : Shape).Idx → EReal)
  (G : (⟨2, ![2048, 6912]⟩ : Shape).Idx → EReal) (GS : (⟨2, ![16, 54]⟩ : Shape).Idx → EReal)
  (U : (⟨2, ![2048, 6912]⟩ : Shape).Idx → EReal) (US : (⟨2, ![16, 54]⟩ : Shape).Idx → EReal)

/-- Row `r`, column `q` of the gated product of the dequantised arrays. -/
def gated (r : Fin 6144) (q : Fin 2048) : EReal :=
  hid (fun k => X (ix2 r k) * XS (ix2 r ⟨k.val / 128, by omega⟩))
    (fun k => G (ix2 q k) * GS (ix2 ⟨q.val / 128, by omega⟩ ⟨k.val / 128, by omega⟩))
    (fun k => U (ix2 q k) * US (ix2 ⟨q.val / 128, by omega⟩ ⟨k.val / 128, by omega⟩))

/-- The level of group `j` of row `r`. -/
def levelAt (r : Fin 6144) (j : Fin 16) : EReal :=
  level fun l => gated X XS G GS U US r ⟨128 * j.val + l.val, by omega⟩

/-- The codes. -/
def codes (r : Fin 6144) (q : Fin 2048) : EReal :=
  code (gated X XS G GS U US r q) (levelAt X XS G GS U US r ⟨q.val / 128, by omega⟩)

/-- The scales. -/
def scales (r : Fin 6144) (j : Fin 16) : EReal := scale (levelAt X XS G GS U US r j)

end Cert.Spec

end
-- ==== Proof.KData.lean ====
/- What each point of the kernel's grid is to leave in its blocks, and that the blocks found there are that. -/
module

public import proofs.«01_k».proof.Proof.Blocks
public import proofs.«01_k».proof.Proof.Whole

@[expose] public section

set_option maxRecDepth 16384

noncomputable section

namespace Cert.KernelIdeal.Hand

open Idealize.ShloMosaic Idealize.ShloMosaic.TcCoe Idealize.ShloMosaic.Tactic
open Cert.KernelIdeal.Gen
open Idealize.SL.Sem
open Cert.Spec Cert.Exponent

variable (m : (ℓ : Loc nD τ sig) → Buf (Elt Ideal) ℓ)

/-- The reshaped codes and scales of the rows. -/
theorem V_main_v0 (c : Dev nD) : V m c main_v0 = shapeCast S6144x6912 (m ((c : Thread nD τ).loc main_arg0)) shapeCasts_S6x1024x6912_S6144x6912 := by
  show StableHlo.after hostOps0 _ (Proc.devRef .tc main_v0) = _
  after_results
  rfl

theorem V_main_v1 (c : Dev nD) : V m c main_v1 = shapeCast S6144x54 (m ((c : Thread nD τ).loc main_arg1)) shapeCasts_S6x1024x54_S6144x54 := by
  show StableHlo.after hostOps0 _ (Proc.devRef .tc main_v1) = _
  after_results
  rfl

/-! ## The index maps -/

theorem idx0 : ∀ t : Fin cfg0.N, win0_0.index t (0 : Fin 2) = 0 ∧ win0_0.index t (1 : Fin 2) = 0 := by
  show ∀ t : Fin grid0.N, win0_0.index t (0 : Fin 2) = 0 ∧ win0_0.index t (1 : Fin 2) = 0
  decide +kernel

theorem idx1 : ∀ t : Fin cfg0.N, win0_1.index t (0 : Fin 2) = 0 ∧ win0_1.index t (1 : Fin 2) = 0 := by
  show ∀ t : Fin grid0.N, win0_1.index t (0 : Fin 2) = 0 ∧ win0_1.index t (1 : Fin 2) = 0
  decide +kernel

theorem idx2 : ∀ t : Fin cfg0.N, win0_2.index t (0 : Fin 2) = t.val / 8 ∧ win0_2.index t (1 : Fin 2) = 0 := by
  show ∀ t : Fin grid0.N, win0_2.index t (0 : Fin 2) = t.val / 8 ∧ win0_2.index t (1 : Fin 2) = 0
  decide +kernel

theorem idx3 : ∀ t : Fin cfg0.N, win0_3.index t (0 : Fin 2) = t.val / 8 ∧ win0_3.index t (1 : Fin 2) = 0 := by
  show ∀ t : Fin grid0.N, win0_3.index t (0 : Fin 2) = t.val / 8 ∧ win0_3.index t (1 : Fin 2) = 0
  decide +kernel

theorem idx4 : ∀ t : Fin cfg0.N, win0_4.index t (0 : Fin 2) = t.val % 8 ∧ win0_4.index t (1 : Fin 2) = 0 := by
  show ∀ t : Fin grid0.N, win0_4.index t (0 : Fin 2) = t.val % 8 ∧ win0_4.index t (1 : Fin 2) = 0
  decide +kernel

theorem idx5 : ∀ t : Fin cfg0.N, win0_5.index t (0 : Fin 2) = t.val % 8 ∧ win0_5.index t (1 : Fin 2) = 0 := by
  show ∀ t : Fin grid0.N, win0_5.index t (0 : Fin 2) = t.val % 8 ∧ win0_5.index t (1 : Fin 2) = 0
  decide +kernel

theorem idx6 : ∀ t : Fin cfg0.N, win0_6.index t (0 : Fin 2) = t.val / 8 ∧ win0_6.index t (1 : Fin 2) = t.val % 8 := by
  show ∀ t : Fin grid0.N, win0_6.index t (0 : Fin 2) = t.val / 8 ∧ win0_6.index t (1 : Fin 2) = t.val % 8
  decide +kernel

theorem idx7 : ∀ t : Fin cfg0.N, win0_7.index t (0 : Fin 2) = t.val / 8 ∧ win0_7.index t (1 : Fin 2) = 0 := by
  show ∀ t : Fin grid0.N, win0_7.index t (0 : Fin 2) = t.val / 8 ∧ win0_7.index t (1 : Fin 2) = 0
  decide +kernel

theorem lt96 (t : Fin cfg0.N) : t.val < 96 := lt_of_lt_of_eq t.isLt (show cfg0.N = 96 from N_0)

theorem coord1 (t : Fin cfg0.N) : (grid0.coords t 1).val = t.val % 8 := by
  have e1 : (grid0.coords t 1).val = t.val / 1 % 8 := Pipeline.Grid.coords_val t 1 (by decide) rfl
  rw [e1, Nat.div_one]

/-- Row `p` of point `t`'s row block, column `q` of its column block. -/
def rowOf (t : Fin cfg0.N) (p : Fin 512) : Fin 6144 := ⟨512 * (t.val / 8) + p.val, by have := lt96 t; omega⟩
def colOf (t : Fin cfg0.N) (q : Fin 256) : Fin 2048 := ⟨256 * (t.val % 8) + q.val, by omega⟩

/-! ## The input windows' blocks are parts of the arrays -/

theorem iblk_0 (c : Dev nD) (t : Fin cfg0.N) : iblk m c 0 t = V m c main_arg3 := by
  funext y
  show V m c main_arg3 (((cfg0.win 0).blk t).view.emb y) = V m c main_arg3 y
  refine congrArg (V m c main_arg3) ?_
  obtain ⟨e0, e1⟩ := idx0 t
  funext a
  apply Fin.ext
  match a with
  | ⟨0, _⟩ => show win0_0.index t (0 : Fin 2) * 16 + 1 * (y 0).val = (y 0).val; rw [e0]; omega
  | ⟨1, _⟩ => show win0_0.index t (1 : Fin 2) * 54 + 1 * (y 1).val = (y 1).val; rw [e1]; omega

theorem iblk_1 (c : Dev nD) (t : Fin cfg0.N) : iblk m c 1 t = V m c main_arg5 := by
  funext y
  show V m c main_arg5 (((cfg0.win 1).blk t).view.emb y) = V m c main_arg5 y
  refine congrArg (V m c main_arg5) ?_
  obtain ⟨e0, e1⟩ := idx1 t
  funext a
  apply Fin.ext
  match a with
  | ⟨0, _⟩ => show win0_1.index t (0 : Fin 2) * 16 + 1 * (y 0).val = (y 0).val; rw [e0]; omega
  | ⟨1, _⟩ => show win0_1.index t (1 : Fin 2) * 54 + 1 * (y 1).val = (y 1).val; rw [e1]; omega

theorem iblk_2 (c : Dev nD) (t : Fin cfg0.N) (y : S512x6912.Idx) : iblk m c 2 t y = V m c main_v0 (ix2 (rowOf t (y 0)) (y 1) : S6144x6912.Idx) := by
  show V m c main_v0 (((cfg0.win 2).blk t).view.emb y) = _
  refine congrArg (V m c main_v0) ?_
  obtain ⟨e0, e1⟩ := idx2 t
  funext a
  apply Fin.ext
  match a with
  | ⟨0, _⟩ => show win0_2.index t (0 : Fin 2) * 512 + 1 * (y 0).val = 512 * (t.val / 8) + (y 0).val; rw [e0]; omega
  | ⟨1, _⟩ => show win0_2.index t (1 : Fin 2) * 6912 + 1 * (y 1).val = (y 1).val; rw [e1]; omega

theorem iblk_3 (c : Dev nD) (t : Fin cfg0.N) (y : S512x54.Idx) : iblk m c 3 t y = V m c main_v1 (ix2 (rowOf t (y 0)) (y 1) : S6144x54.Idx) := by
  show V m c main_v1 (((cfg0.win 3).blk t).view.emb y) = _
  refine congrArg (V m c main_v1) ?_
  obtain ⟨e0, e1⟩ := idx3 t
  funext a
  apply Fin.ext
  match a with
  | ⟨0, _⟩ => show win0_3.index t (0 : Fin 2) * 512 + 1 * (y 0).val = 512 * (t.val / 8) + (y 0).val; rw [e0]; omega
  | ⟨1, _⟩ => show win0_3.index t (1 : Fin 2) * 54 + 1 * (y 1).val = (y 1).val; rw [e1]; omega

theorem iblk_4 (c : Dev nD) (t : Fin cfg0.N) (y : S256x6912.Idx) : iblk m c 4 t y = V m c main_arg2 (ix2 (colOf t (y 0)) (y 1) : S2048x6912.Idx) := by
  show V m c main_arg2 (((cfg0.win 4).blk t).view.emb y) = _
  refine congrArg (V m c main_arg2) ?_
  obtain ⟨e0, e1⟩ := idx4 t
  funext a
  apply Fin.ext
  match a with
  | ⟨0, _⟩ => show win0_4.index t (0 : Fin 2) * 256 + 1 * (y 0).val = 256 * (t.val % 8) + (y 0).val; rw [e0]; omega
  | ⟨1, _⟩ => show win0_4.index t (1 : Fin 2) * 6912 + 1 * (y 1).val = (y 1).val; rw [e1]; omega

theorem iblk_5 (c : Dev nD) (t : Fin cfg0.N) (y : S256x6912.Idx) : iblk m c 5 t y = V m c main_arg4 (ix2 (colOf t (y 0)) (y 1) : S2048x6912.Idx) := by
  show V m c main_arg4 (((cfg0.win 5).blk t).view.emb y) = _
  refine congrArg (V m c main_arg4) ?_
  obtain ⟨e0, e1⟩ := idx5 t
  funext a
  apply Fin.ext
  match a with
  | ⟨0, _⟩ => show win0_5.index t (0 : Fin 2) * 256 + 1 * (y 0).val = 256 * (t.val % 8) + (y 0).val; rw [e0]; omega
  | ⟨1, _⟩ => show win0_5.index t (1 : Fin 2) * 6912 + 1 * (y 1).val = (y 1).val; rw [e1]; omega

/-- The six arrays. -/
abbrev arX (c : Dev nD) : Vec Ideal S6144x6912 .fp8e4m3 := V m c main_v0
abbrev arXS (c : Dev nD) : Vec Ideal S6144x54 .f32 := V m c main_v1
abbrev arG (c : Dev nD) : Vec Ideal S2048x6912 .fp8e4m3 := V m c main_arg2
abbrev arGS (c : Dev nD) : Vec Ideal S16x54 .f32 := V m c main_arg3
abbrev arU (c : Dev nD) : Vec Ideal S2048x6912 .fp8e4m3 := V m c main_arg4
abbrev arUS (c : Dev nD) : Vec Ideal S16x54 .f32 := V m c main_arg5

/-- The rows a row block is dequantised to. -/
def xAt (c : Dev nD) (t : Fin cfg0.N) : Vec Ideal S512x6912 .bf16 := xRows (iblk m c 2 t) (iblk m c 3 t)
def gAt (c : Dev nD) (t : Fin cfg0.N) : Vec Ideal S256x6912 .bf16 := wRows (grid0.coords t 1) (iblk m c 4 t) (iblk m c 0 t)
def uAt (c : Dev nD) (t : Fin cfg0.N) : Vec Ideal S256x6912 .bf16 := wRows (grid0.coords t 1) (iblk m c 5 t) (iblk m c 1 t)

/-- The rows stay while the row block does. -/
theorem xAt_congr (c : Dev nD) (t t' : Fin cfg0.N) (h : t.val / 8 = t'.val / 8) : xAt m c t = xAt m c t' := by
  have hr : ∀ p, rowOf t p = rowOf t' p := fun p => Fin.ext (by show 512 * (t.val / 8) + p.val = 512 * (t'.val / 8) + p.val; rw [h])
  funext y
  unfold xAt xRows
  simp only [iblk_2, iblk_3]
  rw [hr (y 0)]
  exact congrArg (fun p : Fin 6144 => (arX m c (ix2 (rowOf t' (y 0)) (y 1) : S6144x6912.Idx) * arXS m c (ix2 p ⟨(y 1).val / 128, by have h : (y 1).val < 6912 := (y 1).isLt; omega⟩ : S6144x54.Idx) : EReal)) (hr (y 0))

theorem xAt_apply (c : Dev nD) (t : Fin cfg0.N) (p : Fin 512) (k : Fin 6912) :
    xAt m c t (ix2 p k) = (arX m c (ix2 (rowOf t p) k : S6144x6912.Idx) * arXS m c (ix2 (rowOf t p) ⟨k.val / 128, by omega⟩ : S6144x54.Idx) : EReal) := by
  unfold xAt xRows
  simp only [iblk_2, iblk_3]
  rfl

theorem colOf_div (t : Fin cfg0.N) (q : Fin 256) : (⟨2 * (grid0.coords t 1).val + q.val / 128, by have := coord1 t; omega⟩ : Fin 16) = ⟨(colOf t q).val / 128, by have := (colOf t q).isLt; omega⟩ :=
  Fin.ext (by show 2 * (grid0.coords t 1).val + q.val / 128 = (256 * (t.val % 8) + q.val) / 128; rw [coord1]; omega)

theorem gAt_apply (c : Dev nD) (t : Fin cfg0.N) (q : Fin 256) (k : Fin 6912) :
    gAt m c t (ix2 q k) = (arG m c (ix2 (colOf t q) k : S2048x6912.Idx)
      * arGS m c (ix2 ⟨(colOf t q).val / 128, by have := (colOf t q).isLt; omega⟩ ⟨k.val / 128, by omega⟩ : S16x54.Idx) : EReal) := by
  unfold gAt wRows
  simp only [iblk_4, iblk_0]
  exact congrArg (fun a : Fin 16 => (arG m c (ix2 (colOf t q) k : S2048x6912.Idx) * arGS m c (ix2 a ⟨k.val / 128, by omega⟩ : S16x54.Idx) : EReal)) (colOf_div t q)

theorem uAt_apply (c : Dev nD) (t : Fin cfg0.N) (q : Fin 256) (k : Fin 6912) :
    uAt m c t (ix2 q k) = (arU m c (ix2 (colOf t q) k : S2048x6912.Idx)
      * arUS m c (ix2 ⟨(colOf t q).val / 128, by have := (colOf t q).isLt; omega⟩ ⟨k.val / 128, by omega⟩ : S16x54.Idx) : EReal) := by
  unfold uAt wRows
  simp only [iblk_5, iblk_1]
  exact congrArg (fun a : Fin 16 => (arU m c (ix2 (colOf t q) k : S2048x6912.Idx) * arUS m c (ix2 a ⟨k.val / 128, by omega⟩ : S16x54.Idx) : EReal)) (colOf_div t q)

/-- The gated product of a point's blocks is that of the arrays. -/
theorem hBlk_eq (c : Dev nD) (t : Fin cfg0.N) (p : Fin 512) (q : Fin 256) :
    hBlk (xAt m c t) (gAt m c t) (uAt m c t) p q = gated (V m c main_v0) (V m c main_v1) (V m c main_arg2) (V m c main_arg3) (V m c main_arg4) (V m c main_arg5) (rowOf t p) (colOf t q) := by
  unfold hBlk gated
  simp only [xAt_apply, gAt_apply, uAt_apply]

/-- The two groups of point `t`'s column block. -/
def grp0 (t : Fin cfg0.N) : Fin 16 := ⟨2 * (t.val % 8), by omega⟩
def grp1 (t : Fin cfg0.N) : Fin 16 := ⟨2 * (t.val % 8) + 1, by omega⟩

theorem lev0_eq (c : Dev nD) (t : Fin cfg0.N) (p : Fin 512) :
    lev0 (xAt m c t) (gAt m c t) (uAt m c t) p = levelAt (V m c main_v0) (V m c main_v1) (V m c main_arg2) (V m c main_arg3) (V m c main_arg4) (V m c main_arg5) (rowOf t p) (grp0 t) := by
  unfold lev0 levelAt
  refine congrArg level (funext fun l => ?_)
  refine (hBlk_eq m c t p _).trans (congrArg (gated (V m c main_v0) (V m c main_v1) (V m c main_arg2) (V m c main_arg3) (V m c main_arg4) (V m c main_arg5) (rowOf t p)) (Fin.ext ?_))
  show 256 * (t.val % 8) + l.val = 128 * (2 * (t.val % 8)) + l.val
  omega

theorem lev1_eq (c : Dev nD) (t : Fin cfg0.N) (p : Fin 512) :
    lev1 (xAt m c t) (gAt m c t) (uAt m c t) p = levelAt (V m c main_v0) (V m c main_v1) (V m c main_arg2) (V m c main_arg3) (V m c main_arg4) (V m c main_arg5) (rowOf t p) (grp1 t) := by
  unfold lev1 levelAt
  refine congrArg level (funext fun l => ?_)
  refine (hBlk_eq m c t p _).trans (congrArg (gated (V m c main_v0) (V m c main_v1) (V m c main_arg2) (V m c main_arg3) (V m c main_arg4) (V m c main_arg5) (rowOf t p)) (Fin.ext ?_))
  show 256 * (t.val % 8) + (128 + l.val) = 128 * (2 * (t.val % 8) + 1) + l.val
  omega

/-- What point `t` is to leave in the code block, -/
def Codes (c : Dev nD) (t : Fin cfg0.N) (X : Vec Ideal S512x256 .fp8e4m3) : Prop :=
  ∀ (p : Fin 512) (q : Fin 256), X (ix2 p q) = codes (V m c main_v0) (V m c main_v1) (V m c main_arg2) (V m c main_arg3) (V m c main_arg4) (V m c main_arg5) (rowOf t p) (colOf t q)

/-- and in the scale block: the scales of the groups met so far in its row block. -/
def Scales (c : Dev nD) (t : Fin cfg0.N) (X : Vec Ideal S512x16 .f32) : Prop :=
  ∀ (p : Fin 512) (j : Fin 16), j.val < 2 * (t.val % 8) + 2 → X (ix2 p j) = scales (V m c main_v0) (V m c main_v1) (V m c main_arg2) (V m c main_arg3) (V m c main_arg4) (V m c main_arg5) (rowOf t p) j

theorem codesBlk_ok (c : Dev nD) (t : Fin cfg0.N) : Codes m c t (codesBlk (xAt m c t) (gAt m c t) (uAt m c t)) := fun p q => by
  show code (hBlk (xAt m c t) (gAt m c t) (uAt m c t) p q) (if q.val < 128 then lev0 (xAt m c t) (gAt m c t) (uAt m c t) p else lev1 (xAt m c t) (gAt m c t) (uAt m c t) p) = _
  rw [hBlk_eq, lev0_eq, lev1_eq, codes]
  refine congrArg (code _) ?_
  by_cases h : q.val < 128
  · rw [if_pos h]
    refine congrArg (levelAt (V m c main_v0) (V m c main_v1) (V m c main_arg2) (V m c main_arg3) (V m c main_arg4) (V m c main_arg5) (rowOf t p)) (Fin.ext ?_)
    show 2 * (t.val % 8) = (256 * (t.val % 8) + q.val) / 128
    omega
  · rw [if_neg h]
    refine congrArg (levelAt (V m c main_v0) (V m c main_v1) (V m c main_arg2) (V m c main_arg3) (V m c main_arg4) (V m c main_arg5) (rowOf t p)) (Fin.ext ?_)
    show 2 * (t.val % 8) + 1 = (256 * (t.val % 8) + q.val) / 128
    omega

theorem scalesBlk_ok (c : Dev nD) (t : Fin cfg0.N) (x7 : Vec Ideal S512x16 .f32)
    (h7 : ∀ (p : Fin 512) (j : Fin 16), j.val < 2 * (t.val % 8) → x7 (ix2 p j) = scales (V m c main_v0) (V m c main_v1) (V m c main_arg2) (V m c main_arg3) (V m c main_arg4) (V m c main_arg5) (rowOf t p) j) :
    Scales m c t (scalesBlk (xAt m c t) (gAt m c t) (uAt m c t) (grid0.coords t 1) x7) := fun p j hj => by
  show (if j.val = 2 * (grid0.coords t 1).val + 1 then scale (lev1 (xAt m c t) (gAt m c t) (uAt m c t) p)
    else if j.val = 2 * (grid0.coords t 1).val then scale (lev0 (xAt m c t) (gAt m c t) (uAt m c t) p) else x7 (ix2 p j) : EReal) = _
  rw [coord1, lev0_eq, lev1_eq]
  by_cases h1 : j.val = 2 * (t.val % 8) + 1
  · rw [if_pos h1, scales, show grp1 t = j from Fin.ext h1.symm]
  · rw [if_neg h1]
    by_cases h0 : j.val = 2 * (t.val % 8)
    · rw [if_pos h0, scales, show grp0 t = j from Fin.ext h0.symm]
    · rw [if_neg h0]
      exact h7 p j (by omega)

/-- Inside a row block the scales met so far are those the point before left. -/
theorem scales_prev (c : Dev nD) (t t' : Fin cfg0.N) (ht : t.val = t'.val + 1) (h0 : t.val % 8 ≠ 0) (X : Vec Ideal S512x16 .f32) (h : Scales m c t' X)
    (p : Fin 512) (j : Fin 16) (hj : j.val < 2 * (t.val % 8)) : X (ix2 p j) = scales (V m c main_v0) (V m c main_v1) (V m c main_arg2) (V m c main_arg3) (V m c main_arg4) (V m c main_arg5) (rowOf t p) j :=
  (h p j (by omega)).trans (congrArg (fun r => scales (V m c main_v0) (V m c main_v1) (V m c main_arg2) (V m c main_arg3) (V m c main_arg4) (V m c main_arg5) r j) (Fin.ext (by
    show 512 * (t'.val / 8) + p.val = 512 * (t.val / 8) + p.val
    omega)))

end Cert.KernelIdeal.Hand

end
-- ==== Proof.KRun.lean ====
/- The kernel's run: the body meets, point by point, what its blocks are to hold, so the two results end as stated. -/
module

public import proofs.«01_k».proof.Proof.KData
public import Idealize.ShloMosaic.Lib.Claim
public import Idealize.ShloMosaic.Lib.Pipeline.DatRel
public import Idealize.ShloMosaic.Lib.Pipeline.ArrRel

@[expose] public section

set_option maxRecDepth 16384

noncomputable section

namespace Cert.KernelIdeal.Hand

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)
open Cert.Spec

local notation "𝕄" => MT nD τ sig Unit (Elt Ideal) ℕ (UR sig nD τ) ℕ

variable (m : (ℓ : Loc nD τ sig) → Buf (Elt Ideal) ℓ) (ρ : Dev nD → PrngReg)

/-- The windows held to a predicate rather than to contents: the two results. -/
def marked : Fin 8 → Bool := fun w => w.val == 6 || w.val == 7

/-- The predicate of each. -/
def Rl (c : Dev nD) (w : Fin cfg0.W) (t : Fin cfg0.N) : ((cfg0.win w).block.Idx → Elt Ideal (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun X => Codes m c t X
  | ⟨7, _⟩ => fun X => Scales m c t X

/-- Before point `n`: the first scratch holds the row block's dequantised rows, unless `n` begins a row block. -/
def PhiX (c : Dev nD) (n : ℕ) : sProp 𝕄 :=
  iprop(iprop((∃ d, ⌜∀ t : Fin cfg0.N, t.val = n → n % 8 ≠ 0 → d = xAt m c t⌝ ∗ owns (c : Thread nD τ) scM0_0 fullShare d)
    ∗ (∃ d, owns (c : Thread nD τ) scM0_1 fullShare d) ∗ (∃ d, owns (c : Thread nD τ) scM0_2 fullShare d)) ∗ (∃ r, prngReg c r))

/-- The proof data: the arrays as the region finds them, each input's buffer at its block, the invariant `PhiX`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ t := PhiX m c t.val
  q _ := fullShare
  owed _ := 0

/-- The same with the two results held to their predicates. -/
abbrev rdat (c : Dev nD) : RDat τ (Elt Ideal) Unit ℕ (UR sig nD τ) ℕ cfg0 c := (dats m 0 c).toRRel marked (Rl m c)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The scale block found inside a row block is what the point before left. -/
theorem finds7 (c : Dev nD) (t : Fin cfg0.N) (h0 : t.val % 8 ≠ 0) (X : Vec Ideal S512x16 .f32) (h : (rdat m c).Finds 7 t X)
    (p : Fin 512) (j : Fin 16) (hj : j.val < 2 * (t.val % 8)) :
    X (ix2 p j) = scales (V m c main_v0) (V m c main_v1) (V m c main_arg2) (V m c main_arg3) (V m c main_arg4) (V m c main_arg5) (rowOf t p) j := by
  have hz : t.val ≠ 0 := fun h => h0 (by rw [h])
  rcases (RDat.finds_of_pos (rd := rdat m c) (w := 7) (t := t) rfl hz X).mp h with hf | hl
  · exact absurd ((flush0_7 _).mp hf) (by show ¬((t.val - 1) % 8 = 7); omega)
  · have hs : Scales m c ⟨t.val - 1, Nat.lt_of_le_of_lt (Nat.sub_le _ _) t.isLt⟩ X := (dats m 0 c).toRRel_leaves (fgt := marked) (Rl := Rl m c) (w := 7) rfl hl
    exact scales_prev m c t _ (by show t.val = t.val - 1 + 1; omega) h0 X hs p j hj

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜(rdat m c).Finds 6 t Y⌝ ∗ owns (c : Thread nD τ) (ms0_6 t) fullShare Y)
    ∗ (∃ Y, ⌜(rdat m c).Finds 7 t Y⌝ ∗ owns (c : Thread nD τ) (ms0_7 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, ⌜Rl m c 6 t X⌝ ∗ owns (c : Thread nD τ) (ms0_6 t) fullShare X)
    ∗ (∃ X, ⌜Rl m c 7 t X⌝ ∗ owns (c : Thread nD τ) (ms0_7 t) fullShare X))

set_option maxHeartbeats 6400000 in
/-- The body at any point: it finds the inputs' blocks, and inside a row block the rows dequantised and the scales so far. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5]
  rw [show (dats m 0 c).Φ t.castSucc = PhiX m c t.val from rfl, show (dats m 0 c).Φ t.succ = PhiX m c (t.val + 1) from rfl]
  unfold PhiX
  by_cases h0 : t.val % 8 = 0
  · iintro ⟨⟨⟨⟨%ds, %hds, HS0⟩, HS1, HS2⟩, Hg⟩, Ho, ⟨%d0, H0⟩, ⟨%d1, H1⟩, ⟨%d2, H2⟩, ⟨%d3, H3⟩, ⟨%d4, H4⟩, ⟨%d5, H5⟩, ⟨%Y6, %hY6, H6⟩, ⟨%Y7, %hY7, H7⟩⟩
    iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) Y7).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexists _; iexact HS0
    isplitl [HS1]; · iexact HS1
    isplitl [HS2]; · iexact HS2
    iintro ⟨H0, H1, H2, H3, H4, H5, ⟨%e6, H6⟩, ⟨%e7, H7⟩, ⟨%es0, HS0⟩, ⟨%fT1, HS1⟩, ⟨%fT2, HS2⟩⟩
    isplitl [HS0 HS1 HS2 Hg]
    · isplitl [HS0 HS1 HS2]
      · isplitl [HS0]
        · iexists (xAt m c t); isplitr
          · ipureintro; exact fun t' ht' h' => xAt_congr m c t t' (by omega)
          unfold owns; iexists _; isplitr
          swap; · iexact HS0
          ipureintro; exact readS_A c _ _ _ _ _ _ _ _ _ _ _ _ _ _ _ _ _ _ _ _ _ _ _ _ _ _ _ _ _ _ _ _
        isplitl [HS1]
        · iexists _; unfold owns; iexists _; isplitr
          swap; · iexact HS1
          ipureintro; rfl
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists (codesBlk (xAt m c t) (gAt m c t) (uAt m c t)); isplitr
      · ipureintro; exact codesBlk_ok m c t
      unfold owns; iexists _; isplitr
      swap; · iexact H6
      ipureintro
      rw [L6_A]
      exact read6 _ _ _ _ _
    iexists (scalesBlk (xAt m c t) (gAt m c t) (uAt m c t) (grid0.coords t 1) Y7); isplitr
    · ipureintro; exact scalesBlk_ok m c t Y7 (fun p j hj => absurd hj (by omega))
    unfold owns; iexists _; isplitr
    swap; · iexact H7
    ipureintro
    rw [L7_A]
    exact read7 _ _ _ _ _ _ _
  · iintro ⟨⟨⟨⟨%ds, %hds, HS0⟩, HS1, HS2⟩, Hg⟩, Ho, ⟨%d0, H0⟩, ⟨%d1, H1⟩, ⟨%d2, H2⟩, ⟨%d3, H3⟩, ⟨%d4, H4⟩, ⟨%d5, H5⟩, ⟨%Y6, %hY6, H6⟩, ⟨%Y7, %hY7, H7⟩⟩
    have e := hds t rfl h0
    subst e
    iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) Y7 (xAt m c t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    isplitl [HS1]; · iexact HS1
    isplitl [HS2]; · iexact HS2
    iintro ⟨H0, H1, H2, H3, H4, H5, ⟨%e6, H6⟩, ⟨%e7, H7⟩, HS0, ⟨%fT1, HS1⟩, ⟨%fT2, HS2⟩⟩
    isplitl [HS0 HS1 HS2 Hg]
    · isplitl [HS0 HS1 HS2]
      · isplitl [HS0]
        · iexists (xAt m c t); isplitr
          · ipureintro; exact fun t' ht' h' => xAt_congr m c t t' (by omega)
          iexact HS0
        isplitl [HS1]
        · iexists _; unfold owns; iexists _; isplitr
          swap; · iexact HS1
          ipureintro; rfl
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists (codesBlk (xAt m c t) (gAt m c t) (uAt m c t)); isplitr
      · ipureintro; exact codesBlk_ok m c t
      unfold owns; iexists _; isplitr
      swap; · iexact H6
      ipureintro
      rw [L6_B]
      exact read6 _ _ _ _ _
    iexists (scalesBlk (xAt m c t) (gAt m c t) (uAt m c t) (grid0.coords t 1) Y7); isplitr
    · ipureintro; exact scalesBlk_ok m c t Y7 (finds7 m c t h0 Y7 hY7)
    unfold owns; iexists _; isplitr
    swap; · iexact H7
    ipureintro
    rw [L7_B]
    exact read7 _ _ _ _ _ _ _

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligationRel (dats m 0 c) (defs₀ (F := Ideal)) Variants.none () Set.univ marked (Rl m c) := fun t => by
  rw [bigSep_W0, bigSep_W0, defs₀_row]
  exact triple_restated (sound_body m c t) rfl .rfl fun _ => .rfl

/-- What the launch hands the region is the invariant before the first point, and the invariant after the last gives it back. -/
theorem hin (c : Dev nD) : Pipeline.ΦA spec0 c ⊢ (dats m 0 c).Φ 0 := by
  rw [show (dats m 0 c).Φ 0 = PhiX m c 0 from rfl, PhiA0_eq]
  unfold PhiX
  iintro ⟨⟨⟨%d, HS0⟩, HS1, HS2⟩, Hg⟩
  isplitl [HS0 HS1 HS2]
  · isplitl [HS0]
    · iexists d; isplitr
      · ipureintro; exact fun _ _ h => absurd rfl h
      iexact HS0
    isplitl [HS1]
    · iexact HS1
    iexact HS2
  iexact Hg

theorem hout (c : Dev nD) : (dats m 0 c).Φ (Fin.last cfg0.N) ⊢ Pipeline.ΦA spec0 c := by
  rw [show (dats m 0 c).Φ (Fin.last cfg0.N) = PhiX m c (Fin.last cfg0.N).val from rfl, PhiA0_eq]
  unfold PhiX
  iintro ⟨⟨⟨%d, %hd, HS0⟩, HS1, HS2⟩, Hg⟩
  isplitl [HS0 HS1 HS2]
  · isplitl [HS0]
    · iexists d; iexact HS0
    isplitl [HS1]
    · iexact HS1
    iexact HS2
  iexact Hg

/-! ## The run -/

set_option backward.isDefEq.respectTransparency.types false in
/-- Every execution ends, every array as the data above allow and every semaphore at zero. -/
theorem run_quiet : θ_run defs (onTc (τ := τ) (main (F := Ideal))) (s₀ m ρ) (fun r => Pipeline.RDat.FramePost (cfgs 0) (rdat m) (V m) r ∧ r.2.sem = fun _ => 0) :=
  Pipeline.RDat.θ_run_frame_track (Q' := fun r => Pipeline.RDat.FramePost (cfgs 0) (rdat m) (V m) r ∧ r.2.sem = fun _ => 0) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

/-- The array of result 0. -/
def T6 (c : Dev nD) : Vec Ideal S6144x2048 .fp8e4m3 := fun y => codes (V m c main_v0) (V m c main_v1) (V m c main_arg2) (V m c main_arg3) (V m c main_arg4) (V m c main_arg5) (y 0) (y 1)

theorem cut6 (c : Dev nD) (t : Fin cfg0.N) (hf : (cfg0.win 6).flush t = true) (X : Vec Ideal S512x256 .fp8e4m3) (hC : Codes m c t X) :
    (cfg0.win 6).cut (grid0.coords t) X = ((cfg0.win 6).blk t).view.read (Elt Ideal) (T6 m c) := by
  funext y
  have hy0 : (y 0).val < 512 := (y 0).isLt
  have hy1 : (y 1).val < 256 := (y 1).isLt
  obtain ⟨e0, e1⟩ := idx6 t
  have hx : (cfg0.win 6).xinj (grid0.coords t) y = (ix2 ⟨(y 0).val, hy0⟩ ⟨(y 1).val, hy1⟩ : S512x256.Idx) := by
    funext a
    apply Fin.ext
    match a with
    | ⟨0, _⟩ => rfl
    | ⟨1, _⟩ => rfl
  have hm : ((cfg0.win 6).blk t).view.emb y = (ix2 (rowOf t ⟨(y 0).val, hy0⟩) (colOf t ⟨(y 1).val, hy1⟩) : S6144x2048.Idx) := by
    funext a
    apply Fin.ext
    match a with
    | ⟨0, _⟩ => show win0_6.index t (0 : Fin 2) * 512 + 1 * (y 0).val = 512 * (t.val / 8) + (y 0).val; rw [e0]; omega
    | ⟨1, _⟩ => show win0_6.index t (1 : Fin 2) * 256 + 1 * (y 1).val = 256 * (t.val % 8) + (y 1).val; rw [e1]; omega
  show X ((cfg0.win 6).xinj (grid0.coords t) y) = T6 m c (((cfg0.win 6).blk t).view.emb y)
  rw [hx, hm]
  exact hC ⟨(y 0).val, hy0⟩ ⟨(y 1).val, hy1⟩

theorem mem_blk6 (i : S6144x2048.Idx) : ∃ t : Fin cfg0.N, (cfg0.win 6).flush t = true ∧ i ∈ ((cfg0.win 6).blk t).view.set := by
  have h0 : (i 0).val < 6144 := (i 0).isLt
  have h1 : (i 1).val < 2048 := (i 1).isLt
  obtain ⟨t, ht⟩ : ∃ t : Fin cfg0.N, t.val = 8 * ((i 0).val / 512) + (i 1).val / 256 := ⟨⟨8 * ((i 0).val / 512) + (i 1).val / 256, by rw [show cfg0.N = 96 from N_0]; omega⟩, rfl⟩
  refine ⟨t, flush0_6 t, ?_⟩
  show i ∈ ((View.whole main_v2_0).slice (win0_6.rect t)).set
  rw [View.set_slice_whole, Rect.mem_set_unit]
  obtain ⟨e0, e1⟩ := idx6 t
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 256 ≤ (i 1).val ∧ (i 1).val < win0_6.index t (1 : Fin 2) * 256 + 256; omega

/-- The array of result 1. -/
def T7 (c : Dev nD) : Vec Ideal S6144x16 .f32 := fun y => scales (V m c main_v0) (V m c main_v1) (V m c main_arg2) (V m c main_arg3) (V m c main_arg4) (V m c main_arg5) (y 0) (y 1)

theorem cut7 (c : Dev nD) (t : Fin cfg0.N) (hf : (cfg0.win 7).flush t = true) (X : Vec Ideal S512x16 .f32) (hC : Scales m c t X) :
    (cfg0.win 7).cut (grid0.coords t) X = ((cfg0.win 7).blk t).view.read (Elt Ideal) (T7 m c) := by
  funext y
  have hy0 : (y 0).val < 512 := (y 0).isLt
  have hy1 : (y 1).val < 16 := (y 1).isLt
  obtain ⟨e0, e1⟩ := idx7 t
  have hx : (cfg0.win 7).xinj (grid0.coords t) y = (ix2 ⟨(y 0).val, hy0⟩ ⟨(y 1).val, hy1⟩ : S512x16.Idx) := by
    funext a
    apply Fin.ext
    match a with
    | ⟨0, _⟩ => rfl
    | ⟨1, _⟩ => rfl
  have hm : ((cfg0.win 7).blk t).view.emb y = (ix2 (rowOf t ⟨(y 0).val, hy0⟩) (⟨(y 1).val, hy1⟩) : S6144x16.Idx) := by
    funext a
    apply Fin.ext
    match a with
    | ⟨0, _⟩ => show win0_7.index t (0 : Fin 2) * 512 + 1 * (y 0).val = 512 * (t.val / 8) + (y 0).val; rw [e0]; omega
    | ⟨1, _⟩ => show win0_7.index t (1 : Fin 2) * 16 + 1 * (y 1).val = (y 1).val; rw [e1]; omega
  show X ((cfg0.win 7).xinj (grid0.coords t) y) = T7 m c (((cfg0.win 7).blk t).view.emb y)
  rw [hx, hm]
  exact hC ⟨(y 0).val, hy0⟩ ⟨(y 1).val, hy1⟩ (by have := (flush0_7 t).mp hf; show (y 1).val < 2 * (t.val % 8) + 2; omega)

theorem mem_blk7 (i : S6144x16.Idx) : ∃ t : Fin cfg0.N, (cfg0.win 7).flush t = true ∧ i ∈ ((cfg0.win 7).blk t).view.set := by
  have h0 : (i 0).val < 6144 := (i 0).isLt
  have h1 : (i 1).val < 16 := (i 1).isLt
  obtain ⟨t, ht⟩ : ∃ t : Fin cfg0.N, t.val = 8 * ((i 0).val / 512) + 7 := ⟨⟨8 * ((i 0).val / 512) + 7, by rw [show cfg0.N = 96 from N_0]; omega⟩, rfl⟩
  refine ⟨t, (flush0_7 t).mpr (by omega), ?_⟩
  show i ∈ ((View.whole main_v2_1).slice (win0_7.rect t)).set
  rw [View.set_slice_whole, Rect.mem_set_unit]
  obtain ⟨e0, e1⟩ := idx7 t
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 16 ≤ (i 1).val ∧ (i 1).val < win0_7.index t (1 : Fin 2) * 16 + 16; omega

/-- What the run leaves, read off the data: the two results whole, the arguments as they were. -/
theorem read_post (r : PUnit × MemSt nD τ sig (Elt Ideal)) (h : Pipeline.RDat.FramePost (cfgs 0) (rdat m) (V m) r) (c : Dev nD) :
    r.2.mem ((c : Thread nD τ).loc main_v2_0) = T6 m c
      ∧ r.2.mem ((c : Thread nD τ).loc main_v2_1) = T7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  obtain ⟨after, hL, hA⟩ := RDat.FramePost.exists_exact h c
  have in_ : ∀ w : Fin cfg0.W, (cfg0.win w).isOut = false → ((rdat m c).withAfter after).arrAt w cfg0.N = V m c (Pipeline.arrRef spec0 w) :=
    fun w hw => (Dat.arrAt_in _ w hw _).trans (A_eq m c w)
  refine ⟨(hA 6).trans (Dat.arrAt_eq_of_cover _ 6 (T6 m c) (fun t hf => cut6 m c t hf (after 6 t) ?_) mem_blk6),
    (hA 7).trans (Dat.arrAt_eq_of_cover _ 7 (T7 m c) (fun t hf => cut7 m c t hf (after 7 t) ?_) mem_blk7),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    (hA 4).trans ((in_ 4 rfl).trans (V_main_arg2 m c)),
    (hA 0).trans ((in_ 0 rfl).trans (V_main_arg3 m c)),
    (hA 5).trans ((in_ 5 rfl).trans (V_main_arg4 m c)),
    (hA 1).trans ((in_ 1 rfl).trans (V_main_arg5 m c))⟩
  · exact (dats m 0 c).toRRel_leaves (fgt := marked) (Rl := Rl m c) (w := 6) rfl (hL 6 t hf)
  · exact (dats m 0 c).toRRel_leaves (fgt := marked) (Rl := Rl m c) (w := 7) rfl (hL 7 t hf)

/-- The kernel's run with its two results. -/
theorem run_vals : θ_run defs (onTc (τ := τ) (main (F := Ideal))) ⟨m, fun _ => 0, ρ⟩ fun r => ∀ c : Dev nD,
    r.2.mem ((c : Thread nD τ).loc main_v2_0) = T6 m c
      ∧ r.2.mem ((c : Thread nD τ).loc main_v2_1) = T7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => read_post m r h.1 c) (run_quiet m ρ)

/-- The kernel's frame: every execution ends, the arguments are unchanged and no semaphore is left raised. -/
theorem frame : θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0 :=
  (θ_run defs _ _).mono (fun r h => ⟨fun c => (read_post m r h.1 c).2.2, h.2⟩) (run_quiet m ρ)

end Cert.KernelIdeal.Hand

end
-- ==== Proof.RefValue.lean ====
/- What the reference leaves in its two results, entry by entry. -/
module

public import proofs.«01_k».proof.Proof.Whole
public import proofs.«01_k».proof.Proof.Gen.ReferenceIdeal.Value
public import Idealize.ShloMosaic.Lib.Pointwise

@[expose] public section

set_option maxRecDepth 16384

noncomputable section

namespace Cert.ReferenceIdeal.Hand

open Idealize.ShloMosaic Idealize.ShloMosaic.TcCoe
open Cert.ReferenceIdeal.Gen
open Idealize.SL.Sem
open Cert.Spec Cert.Exponent

variable (P0 : Vec Ideal S6144x6912 .fp8e4m3) (P1 : Vec Ideal S6144x54 .f32) (P2 : Vec Ideal S2048x6912 .fp8e4m3)
  (P3 : Vec Ideal S16x54 .f32) (P4 : Vec Ideal S2048x6912 .fp8e4m3) (P5 : Vec Ideal S16x54 .f32)

theorem pay4_apply (r : Fin 6144) (j : Fin 16) (l : Fin 128) :
    k0_pay4 P0 P1 P2 P3 P4 P5 (ix3 r j l) = gated P0 P1 P2 P3 P4 P5 r ⟨128 * j.val + l.val, by omega⟩ := by
  have e : (⟨j.val * 128 + l.val, by omega⟩ : Fin 2048) = ⟨128 * j.val + l.val, by omega⟩ := Fin.ext (by dsimp only; omega)
  have e' : (⟨(128 * j.val + l.val) / 128, by omega⟩ : Fin 16) = j := Fin.ext (by dsimp only; omega)
  unfold k0_pay4
  pointwise
  unfold gated hid
  simp only [e, e']

/-- The largest of a group. -/
theorem max_of (H : FVec Ideal S6144x16x128 .f32) (r : Fin 6144) (j : Fin 16) :
    (multiReduction (F := Ideal) .maximumf [2] S6144x16 H 0xFF800000#32 reduces_S6144x16x128_S6144x16 (.inl rfl) rfl) (ix2 r j)
      = Finset.univ.fold max (Ideal.ofBits .f32 0xFF800000#32) (fun l : Fin 128 => H (ix3 r j l)) := by
  pointwise

/-- The product by the constant, off any array of maxima. -/
theorem scaled_of (H : FVec Ideal S6144x16 .f32) (r : Fin 6144) (j : Fin 16) :
    (mulf (shapeCast S6144x16x1 H
        shapeCasts_S6144x16_S6144x16x1) (broadcast S6144x16x1 (Scalar.ofBits (F := Ideal) .f32 0x3B124925#32)) : FVec Ideal S6144x16x1 .f32) (ix3 r j 0)
      = H (ix2 r j) * Ideal.ofBits .f32 0x3B124925#32 := by
  pointwise

/-- The magnitude of an entry. -/
theorem abs_of (H : FVec Ideal S6144x16x128 .f32) (y : S6144x16x128.Idx) : absf H y = max (H y) (-(H y)) := rfl

theorem pay5_apply (r : Fin 6144) (j : Fin 16) :
    k0_pay5 P0 P1 P2 P3 P4 P5 (ix3 r j 0) = levelAt P0 P1 P2 P3 P4 P5 r j := by
  refine (scaled_of (multiReduction (F := Ideal) .maximumf [2] S6144x16 (absf (k0_pay4 P0 P1 P2 P3 P4 P5)) 0xFF800000#32 reduces_S6144x16x128_S6144x16 (.inl rfl) rfl) r j).trans ?_
  rw [max_of]
  simp only [abs_of, pay4_apply]
  unfold levelAt level
  with_reducible rfl

theorem refExpo_if (y : EReal) : (if y < Ideal.ofBits .f32 0x00800000#32 then 0
      else min (Ideal.liftRound Int.floor (Ideal.div (Ideal.log y) ((Real.log 2 : ℝ) : EReal)) + 1) (Ideal.ofBits .f32 0x42F00000#32)) = refExpo y := by
  unfold refExpo
  rw [zero_word, one_word, EReal.coe_one]
  show _ = Scalar.select (BitVec.ofBool (decide (y < _))) _ _
  by_cases h : y < Ideal.ofBits .f32 0x00800000#32 <;> simp [h, Scalar.select]

/-- The exponent, off any array of levels. -/
theorem expo_of (H : FVec Ideal S6144x16x1 .f32) (r : Fin 6144) (j : Fin 16) :
    k0_pay1 (cmpf .olt H (broadcast S6144x16x1 (Scalar.ofBits (F := Ideal) .f32 0x00800000#32))) (log H) (ix3 r j 0)
      = refExpo (H (ix3 r j 0)) := by
  unfold k0_pay1
  pointwise
  exact refExpo_if _

theorem pay1_apply (r : Fin 6144) (j : Fin 16) :
    k0_pay1 (k0_pay6 P0 P1 P2 P3 P4 P5) (k0_pay7 P0 P1 P2 P3 P4 P5) (ix3 r j 0) = refExpo (levelAt P0 P1 P2 P3 P4 P5 r j) :=
  (expo_of (k0_pay5 P0 P1 P2 P3 P4 P5) r j).trans (congrArg refExpo (pay5_apply P0 P1 P2 P3 P4 P5 r j))

/-- The codes, off any array of groups and any exponents. -/
theorem codes_of (H : FVec Ideal S6144x16x128 .f32) (v : IVec S6144x16x1 1) (w : FVec Ideal S6144x16x1 .f32) (r : Fin 6144) (q : Fin 2048) :
    k0_pay2 H v w (ix2 r q) = min (Ideal.ofBits .f32 0x43E00000#32) (max (Ideal.ofBits .f32 0xC3E00000#32)
      (H (ix3 r ⟨q.val / 128, by omega⟩ ⟨q.val % 128, by omega⟩)
        * Ideal.exp2 (Ideal.ofBits .f32 0x00000000#32 - k0_pay1 v w (ix3 r ⟨q.val / 128, by omega⟩ 0)))) := by
  unfold k0_pay2
  generalize k0_pay1 v w = b
  pointwise
  rfl

theorem pay2_apply (r : Fin 6144) (q : Fin 2048) :
    k0_pay2 (k0_pay4 P0 P1 P2 P3 P4 P5) (k0_pay6 P0 P1 P2 P3 P4 P5) (k0_pay7 P0 P1 P2 P3 P4 P5) (ix2 r q)
      = codes P0 P1 P2 P3 P4 P5 r q := by
  have e : (⟨128 * (q.val / 128) + q.val % 128, by omega⟩ : Fin 2048) = q := Fin.ext (Nat.div_add_mod _ _)
  refine (codes_of (k0_pay4 P0 P1 P2 P3 P4 P5) (k0_pay6 P0 P1 P2 P3 P4 P5) (k0_pay7 P0 P1 P2 P3 P4 P5) r q).trans ?_
  rw [pay1_apply P0 P1 P2 P3 P4 P5 r ⟨q.val / 128, by omega⟩,
    (pay4_apply P0 P1 P2 P3 P4 P5 r ⟨q.val / 128, by omega⟩ ⟨q.val % 128, by omega⟩).trans (congrArg (gated P0 P1 P2 P3 P4 P5 r) e),
    codes, code]

/-- The scales, off any exponents. -/
theorem scales_of (v : IVec S6144x16x1 1) (w : FVec Ideal S6144x16x1 .f32) (r : Fin 6144) (j : Fin 16) :
    k0_pay3 v w (ix2 r j) = Ideal.exp2 (k0_pay1 v w (ix3 r j 0)) := by
  unfold k0_pay3
  generalize k0_pay1 v w = b
  pointwise
  rfl

theorem pay3_apply (r : Fin 6144) (j : Fin 16) :
    k0_pay3 (k0_pay6 P0 P1 P2 P3 P4 P5) (k0_pay7 P0 P1 P2 P3 P4 P5) (ix2 r j) = scales P0 P1 P2 P3 P4 P5 r j :=
  (scales_of _ _ r j).trans (congrArg Ideal.exp2 (pay1_apply P0 P1 P2 P3 P4 P5 r j))

end Cert.ReferenceIdeal.Hand

end
-- ==== Proof.RefRun.lean ====
/- What the reference leaves in its two results, as whole arrays. -/
module

public import proofs.«01_k».proof.Proof.RefValue

@[expose] public section

set_option maxRecDepth 16384

noncomputable section

namespace Cert.ReferenceIdeal.Hand

open Idealize.ShloMosaic Idealize.ShloMosaic.TcCoe Idealize.ShloMosaic.Tactic
open Cert.ReferenceIdeal.Gen Cert.ReferenceIdeal.Value
open Idealize.SL.Sem
open Cert.Spec Cert.Exponent

variable (m : (ℓ : Loc nD τ sig) → Buf (Elt Ideal) ℓ)

/-- The reshaped codes and scales of the rows. -/
theorem V_main_v0 (c : Dev nD) : V m c main_v0 = shapeCast S6144x6912 (m ((c : Thread nD τ).loc main_arg0)) shapeCasts_S6x1024x6912_S6144x6912 := by
  show StableHlo.after hostOps0 _ (Proc.devRef .tc main_v0) = _
  after_results
  rfl

theorem V_main_v1 (c : Dev nD) : V m c main_v1 = shapeCast S6144x54 (m ((c : Thread nD τ).loc main_arg1)) shapeCasts_S6x1024x54_S6144x54 := by
  show StableHlo.after hostOps0 _ (Proc.devRef .tc main_v1) = _
  after_results
  rfl

/-- A load of a whole buffer reads it. -/
theorem ld_whole {d0 d1 : ℕ} {e : EltTy} (x : Vec Ideal ⟨2, ![d0, d1]⟩ e)
    (inb : ∀ a, (![0, 0] : Fin 2 → ℕ) a + (⟨2, ![d0, d1]⟩ : Shape).size a ≤ (⟨2, ![d0, d1]⟩ : Shape).size a) :
    View.ld x (Rect.unit (s := ⟨2, ![d0, d1]⟩) ![0, 0] (⟨2, ![d0, d1]⟩ : Shape).size inb) = x := by
  funext j
  refine congrArg x ?_
  refine Rect.emb_eq_of_coords (Rect.unit (s := ⟨2, ![d0, d1]⟩) ![0, 0] (⟨2, ![d0, d1]⟩ : Shape).size inb) j j fun a => ?_
  fin_cases a <;> simp [Rect.unit]

/-- What the body leaves in its two blocks. -/
theorem out6_eq (x0 : Vec Ideal S6144x6912 .fp8e4m3) (x1 : Vec Ideal S6144x54 .f32) (x2 : Vec Ideal S2048x6912 .fp8e4m3)
    (x3 : Vec Ideal S16x54 .f32) (x4 : Vec Ideal S2048x6912 .fp8e4m3) (x5 : Vec Ideal S16x54 .f32) :
    out0_6 x0 x1 x2 x3 x4 x5 = fun y => codes x0 x1 x2 x3 x4 x5 (y 0) (y 1) := by
  funext y
  unfold out0_6 k0_pay9 k0_pay8
  rw [show View.ld x0 r0_0 = x0 from ld_whole x0 _, show View.ld x1 r0_1 = x1 from ld_whole x1 _,
    show View.ld x2 r0_2 = x2 from ld_whole x2 _, show View.ld x3 r0_3 = x3 from ld_whole x3 _,
    show View.ld x4 r0_2 = x4 from ld_whole x4 _, show View.ld x5 r0_3 = x5 from ld_whole x5 _]
  refine View.canon_apply_of_pieces (Val := Elt Ideal) (S := S6144x2048) (e := .fp8e4m3) (fun y => codes x0 x1 x2 x3 x4 x5 (y 0) (y 1)) _ ?_ y (cover0_6 _ y)
  intro pc hpc
  rcases List.mem_cons.mp hpc with rfl | hpc
  · intro x
    have e : r0_4.emb x = x := Rect.emb_eq_of_coords r0_4 x x fun a => by fin_cases a <;> simp [Rect.unit]
    refine Eq.trans ?_ (congrArg (fun y : S6144x2048.Idx => codes x0 x1 x2 x3 x4 x5 (y 0) (y 1)) e.symm)
    exact (congrArg _ (eq_ix2 x)).trans (pay2_apply x0 x1 x2 x3 x4 x5 (x 0) (x 1))
  nomatch hpc

theorem out7_eq (x0 : Vec Ideal S6144x6912 .fp8e4m3) (x1 : Vec Ideal S6144x54 .f32) (x2 : Vec Ideal S2048x6912 .fp8e4m3)
    (x3 : Vec Ideal S16x54 .f32) (x4 : Vec Ideal S2048x6912 .fp8e4m3) (x5 : Vec Ideal S16x54 .f32) :
    out0_7 x0 x1 x2 x3 x4 x5 = fun y => scales x0 x1 x2 x3 x4 x5 (y 0) (y 1) := by
  funext y
  unfold out0_7 k0_pay9 k0_pay8
  rw [show View.ld x0 r0_0 = x0 from ld_whole x0 _, show View.ld x1 r0_1 = x1 from ld_whole x1 _,
    show View.ld x2 r0_2 = x2 from ld_whole x2 _, show View.ld x3 r0_3 = x3 from ld_whole x3 _,
    show View.ld x4 r0_2 = x4 from ld_whole x4 _, show View.ld x5 r0_3 = x5 from ld_whole x5 _]
  refine View.canon_apply_of_pieces (Val := Elt Ideal) (S := S6144x16) (e := .f32) (fun y => scales x0 x1 x2 x3 x4 x5 (y 0) (y 1)) _ ?_ y (cover0_7 _ y)
  intro pc hpc
  rcases List.mem_cons.mp hpc with rfl | hpc
  · intro x
    have e : r0_5.emb x = x := Rect.emb_eq_of_coords r0_5 x x fun a => by fin_cases a <;> simp [Rect.unit]
    refine Eq.trans ?_ (congrArg (fun y : S6144x16.Idx => scales x0 x1 x2 x3 x4 x5 (y 0) (y 1)) e.symm)
    exact (congrArg _ (eq_ix2 x)).trans (pay3_apply x0 x1 x2 x3 x4 x5 (x 0) (x 1))
  nomatch hpc

/-! ## The one point's blocks are the arrays -/

theorem idx0 : ∀ t : Fin cfg0.N, win0_0.index t (0 : Fin 2) = 0 ∧ win0_0.index t (1 : Fin 2) = 0 := by
  show ∀ t : Fin grid0.N, win0_0.index t (0 : Fin 2) = 0 ∧ win0_0.index t (1 : Fin 2) = 0
  decide +kernel

theorem idx1 : ∀ t : Fin cfg0.N, win0_1.index t (0 : Fin 2) = 0 ∧ win0_1.index t (1 : Fin 2) = 0 := by
  show ∀ t : Fin grid0.N, win0_1.index t (0 : Fin 2) = 0 ∧ win0_1.index t (1 : Fin 2) = 0
  decide +kernel

theorem idx2 : ∀ t : Fin cfg0.N, win0_2.index t (0 : Fin 2) = 0 ∧ win0_2.index t (1 : Fin 2) = 0 := by
  show ∀ t : Fin grid0.N, win0_2.index t (0 : Fin 2) = 0 ∧ win0_2.index t (1 : Fin 2) = 0
  decide +kernel

theorem idx3 : ∀ t : Fin cfg0.N, win0_3.index t (0 : Fin 2) = 0 ∧ win0_3.index t (1 : Fin 2) = 0 := by
  show ∀ t : Fin grid0.N, win0_3.index t (0 : Fin 2) = 0 ∧ win0_3.index t (1 : Fin 2) = 0
  decide +kernel

theorem idx4 : ∀ t : Fin cfg0.N, win0_4.index t (0 : Fin 2) = 0 ∧ win0_4.index t (1 : Fin 2) = 0 := by
  show ∀ t : Fin grid0.N, win0_4.index t (0 : Fin 2) = 0 ∧ win0_4.index t (1 : Fin 2) = 0
  decide +kernel

theorem idx5 : ∀ t : Fin cfg0.N, win0_5.index t (0 : Fin 2) = 0 ∧ win0_5.index t (1 : Fin 2) = 0 := by
  show ∀ t : Fin grid0.N, win0_5.index t (0 : Fin 2) = 0 ∧ win0_5.index t (1 : Fin 2) = 0
  decide +kernel

theorem idx6 : ∀ t : Fin cfg0.N, win0_6.index t (0 : Fin 2) = 0 ∧ win0_6.index t (1 : Fin 2) = 0 := by
  show ∀ t : Fin grid0.N, win0_6.index t (0 : Fin 2) = 0 ∧ win0_6.index t (1 : Fin 2) = 0
  decide +kernel

theorem idx7 : ∀ t : Fin cfg0.N, win0_7.index t (0 : Fin 2) = 0 ∧ win0_7.index t (1 : Fin 2) = 0 := by
  show ∀ t : Fin grid0.N, win0_7.index t (0 : Fin 2) = 0 ∧ win0_7.index t (1 : Fin 2) = 0
  decide +kernel

theorem iblk_0 (c : Dev nD) (t : Fin cfg0.N) : iblk m c 0 t = V m c main_v0 := by
  funext y
  show V m c main_v0 (((cfg0.win 0).blk t).view.emb y) = V m c main_v0 y
  refine congrArg (V m c main_v0) ?_
  obtain ⟨e0, e1⟩ := idx0 t
  funext a
  apply Fin.ext
  match a with
  | ⟨0, _⟩ => show win0_0.index t (0 : Fin 2) * 6144 + 1 * (y 0).val = (y 0).val; rw [e0]; omega
  | ⟨1, _⟩ => show win0_0.index t (1 : Fin 2) * 6912 + 1 * (y 1).val = (y 1).val; rw [e1]; omega

theorem iblk_1 (c : Dev nD) (t : Fin cfg0.N) : iblk m c 1 t = V m c main_v1 := by
  funext y
  show V m c main_v1 (((cfg0.win 1).blk t).view.emb y) = V m c main_v1 y
  refine congrArg (V m c main_v1) ?_
  obtain ⟨e0, e1⟩ := idx1 t
  funext a
  apply Fin.ext
  match a with
  | ⟨0, _⟩ => show win0_1.index t (0 : Fin 2) * 6144 + 1 * (y 0).val = (y 0).val; rw [e0]; omega
  | ⟨1, _⟩ => show win0_1.index t (1 : Fin 2) * 54 + 1 * (y 1).val = (y 1).val; rw [e1]; omega

theorem iblk_2 (c : Dev nD) (t : Fin cfg0.N) : iblk m c 2 t = V m c main_arg2 := by
  funext y
  show V m c main_arg2 (((cfg0.win 2).blk t).view.emb y) = V m c main_arg2 y
  refine congrArg (V m c main_arg2) ?_
  obtain ⟨e0, e1⟩ := idx2 t
  funext a
  apply Fin.ext
  match a with
  | ⟨0, _⟩ => show win0_2.index t (0 : Fin 2) * 2048 + 1 * (y 0).val = (y 0).val; rw [e0]; omega
  | ⟨1, _⟩ => show win0_2.index t (1 : Fin 2) * 6912 + 1 * (y 1).val = (y 1).val; rw [e1]; omega

theorem iblk_3 (c : Dev nD) (t : Fin cfg0.N) : iblk m c 3 t = V m c main_arg3 := by
  funext y
  show V m c main_arg3 (((cfg0.win 3).blk t).view.emb y) = V m c main_arg3 y
  refine congrArg (V m c main_arg3) ?_
  obtain ⟨e0, e1⟩ := idx3 t
  funext a
  apply Fin.ext
  match a with
  | ⟨0, _⟩ => show win0_3.index t (0 : Fin 2) * 16 + 1 * (y 0).val = (y 0).val; rw [e0]; omega
  | ⟨1, _⟩ => show win0_3.index t (1 : Fin 2) * 54 + 1 * (y 1).val = (y 1).val; rw [e1]; omega

theorem iblk_4 (c : Dev nD) (t : Fin cfg0.N) : iblk m c 4 t = V m c main_arg4 := by
  funext y
  show V m c main_arg4 (((cfg0.win 4).blk t).view.emb y) = V m c main_arg4 y
  refine congrArg (V m c main_arg4) ?_
  obtain ⟨e0, e1⟩ := idx4 t
  funext a
  apply Fin.ext
  match a with
  | ⟨0, _⟩ => show win0_4.index t (0 : Fin 2) * 2048 + 1 * (y 0).val = (y 0).val; rw [e0]; omega
  | ⟨1, _⟩ => show win0_4.index t (1 : Fin 2) * 6912 + 1 * (y 1).val = (y 1).val; rw [e1]; omega

theorem iblk_5 (c : Dev nD) (t : Fin cfg0.N) : iblk m c 5 t = V m c main_arg5 := by
  funext y
  show V m c main_arg5 (((cfg0.win 5).blk t).view.emb y) = V m c main_arg5 y
  refine congrArg (V m c main_arg5) ?_
  obtain ⟨e0, e1⟩ := idx5 t
  funext a
  apply Fin.ext
  match a with
  | ⟨0, _⟩ => show win0_5.index t (0 : Fin 2) * 16 + 1 * (y 0).val = (y 0).val; rw [e0]; omega
  | ⟨1, _⟩ => show win0_5.index t (1 : Fin 2) * 54 + 1 * (y 1).val = (y 1).val; rw [e1]; omega

/-- The array of result 0. -/
def T6 (c : Dev nD) : Vec Ideal S6144x2048 .fp8e4m3 := fun y => codes (V m c main_v0) (V m c main_v1) (V m c main_arg2) (V m c main_arg3) (V m c main_arg4) (V m c main_arg5) (y 0) (y 1)

theorem flushed6_T (c : Dev nD) (t : Fin cfg0.N) : (dats m 0 c).flushed 6 t = ((cfg0.win 6).blk t).view.read (Elt Ideal) (T6 m c) := by
  rw [flushed6, iblk_0, iblk_1, iblk_2, iblk_3, iblk_4, iblk_5, out6_eq]
  funext y
  obtain ⟨e0, e1⟩ := idx6 t
  show T6 m c y = T6 m c (((cfg0.win 6).blk t).view.emb y)
  refine congrArg (T6 m c) ?_
  funext a
  apply Fin.ext
  match a with
  | ⟨0, _⟩ => show (y 0).val = win0_6.index t (0 : Fin 2) * 6144 + 1 * (y 0).val; rw [e0]; omega
  | ⟨1, _⟩ => show (y 1).val = win0_6.index t (1 : Fin 2) * 2048 + 1 * (y 1).val; rw [e1]; omega

theorem mem_blk6 (t : Fin cfg0.N) (i : S6144x2048.Idx) : i ∈ ((cfg0.win 6).blk t).view.set := by
  have h0 : (i 0).val < 6144 := (i 0).isLt
  have h1 : (i 1).val < 2048 := (i 1).isLt
  show i ∈ ((View.whole main_v2_0).slice (win0_6.rect t)).set
  rw [View.set_slice_whole, Rect.mem_set_unit]
  obtain ⟨e0, e1⟩ := idx6 t
  intro a
  match a with
  | ⟨0, _⟩ => show win0_6.index t (0 : Fin 2) * 6144 ≤ (i 0).val ∧ (i 0).val < win0_6.index t (0 : Fin 2) * 6144 + 6144; omega
  | ⟨1, _⟩ => show win0_6.index t (1 : Fin 2) * 2048 ≤ (i 1).val ∧ (i 1).val < win0_6.index t (1 : Fin 2) * 2048 + 2048; omega

theorem final6 (c : Dev nD) : (dats m 0 c).arrAt 6 cfg0.N = T6 m c :=
  (dats m 0 c).arrAt_eq_of_cover 6 _ (fun t _ => flushed6_T m c t) (fun i => ⟨⟨0, by decide⟩, by decide, mem_blk6 _ i⟩)

/-- The array of result 1. -/
def T7 (c : Dev nD) : Vec Ideal S6144x16 .f32 := fun y => scales (V m c main_v0) (V m c main_v1) (V m c main_arg2) (V m c main_arg3) (V m c main_arg4) (V m c main_arg5) (y 0) (y 1)

theorem flushed7_T (c : Dev nD) (t : Fin cfg0.N) : (dats m 0 c).flushed 7 t = ((cfg0.win 7).blk t).view.read (Elt Ideal) (T7 m c) := by
  rw [flushed7, iblk_0, iblk_1, iblk_2, iblk_3, iblk_4, iblk_5, out7_eq]
  funext y
  obtain ⟨e0, e1⟩ := idx7 t
  show T7 m c y = T7 m c (((cfg0.win 7).blk t).view.emb y)
  refine congrArg (T7 m c) ?_
  funext a
  apply Fin.ext
  match a with
  | ⟨0, _⟩ => show (y 0).val = win0_7.index t (0 : Fin 2) * 6144 + 1 * (y 0).val; rw [e0]; omega
  | ⟨1, _⟩ => show (y 1).val = win0_7.index t (1 : Fin 2) * 16 + 1 * (y 1).val; rw [e1]; omega

theorem mem_blk7 (t : Fin cfg0.N) (i : S6144x16.Idx) : i ∈ ((cfg0.win 7).blk t).view.set := by
  have h0 : (i 0).val < 6144 := (i 0).isLt
  have h1 : (i 1).val < 16 := (i 1).isLt
  show i ∈ ((View.whole main_v2_1).slice (win0_7.rect t)).set
  rw [View.set_slice_whole, Rect.mem_set_unit]
  obtain ⟨e0, e1⟩ := idx7 t
  intro a
  match a with
  | ⟨0, _⟩ => show win0_7.index t (0 : Fin 2) * 6144 ≤ (i 0).val ∧ (i 0).val < win0_7.index t (0 : Fin 2) * 6144 + 6144; omega
  | ⟨1, _⟩ => show win0_7.index t (1 : Fin 2) * 16 ≤ (i 1).val ∧ (i 1).val < win0_7.index t (1 : Fin 2) * 16 + 16; omega

theorem final7 (c : Dev nD) : (dats m 0 c).arrAt 7 cfg0.N = T7 m c :=
  (dats m 0 c).arrAt_eq_of_cover 7 _ (fun t _ => flushed7_T m c t) (fun i => ⟨⟨0, by decide⟩, by decide, mem_blk7 _ i⟩)

end Cert.ReferenceIdeal.Hand

end
-- ==== Proof.Agree.lean ====
/- The kernel's two results and the reference's are the same functions of the arguments. -/
module

public import proofs.«01_k».proof.Proof.KRun
public import proofs.«01_k».proof.Proof.RefRun

@[expose] public section

set_option maxRecDepth 16384

noncomputable section

namespace Cert.Agree

open Idealize.ShloMosaic Idealize.ShloMosaic.TcCoe
open Idealize.SL.Sem
open Cert.Spec

section Congr

variable {X X' : (⟨2, ![6144, 6912]⟩ : Shape).Idx → EReal} {XS XS' : (⟨2, ![6144, 54]⟩ : Shape).Idx → EReal}
  {G G' : (⟨2, ![2048, 6912]⟩ : Shape).Idx → EReal} {GS GS' : (⟨2, ![16, 54]⟩ : Shape).Idx → EReal}
  {U U' : (⟨2, ![2048, 6912]⟩ : Shape).Idx → EReal} {US US' : (⟨2, ![16, 54]⟩ : Shape).Idx → EReal}

theorem codes_congr (h0 : X = X') (h1 : XS = XS') (h2 : G = G') (h3 : GS = GS') (h4 : U = U') (h5 : US = US') :
    codes X XS G GS U US = codes X' XS' G' GS' U' US' := by
  subst h0 h1 h2 h3 h4 h5; rfl

theorem scales_congr (h0 : X = X') (h1 : XS = XS') (h2 : G = G') (h3 : GS = GS') (h4 : U = U') (h5 : US = US') :
    scales X XS G GS U US = scales X' XS' G' GS' U' US' := by
  subst h0 h1 h2 h3 h4 h5; rfl

end Congr

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs are launched on the same arguments. -/
abbrev Same (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable {m m'}

theorem v0 {c : Dev Cert.KernelIdeal.nD} (h : Same m m' c) :
    Cert.ReferenceIdeal.Gen.V m' c Cert.ReferenceIdeal.main_v0 = Cert.KernelIdeal.Gen.V m c Cert.KernelIdeal.main_v0 :=
  (Cert.ReferenceIdeal.Hand.V_main_v0 m' c).trans ((congrArg (fun x => shapeCast Cert.KernelIdeal.S6144x6912 x Cert.KernelIdeal.Gen.shapeCasts_S6x1024x6912_S6144x6912) h.1).trans
    (Cert.KernelIdeal.Hand.V_main_v0 m c).symm)

theorem v1 {c : Dev Cert.KernelIdeal.nD} (h : Same m m' c) :
    Cert.ReferenceIdeal.Gen.V m' c Cert.ReferenceIdeal.main_v1 = Cert.KernelIdeal.Gen.V m c Cert.KernelIdeal.main_v1 :=
  (Cert.ReferenceIdeal.Hand.V_main_v1 m' c).trans ((congrArg (fun x => shapeCast Cert.KernelIdeal.S6144x54 x Cert.KernelIdeal.Gen.shapeCasts_S6x1024x54_S6144x54) h.2.1).trans
    (Cert.KernelIdeal.Hand.V_main_v1 m c).symm)

theorem a2 {c : Dev Cert.KernelIdeal.nD} (h : Same m m' c) :
    Cert.ReferenceIdeal.Gen.V m' c Cert.ReferenceIdeal.main_arg2 = Cert.KernelIdeal.Gen.V m c Cert.KernelIdeal.main_arg2 :=
  (Cert.ReferenceIdeal.Gen.V_main_arg2 m' c).trans (h.2.2.1.trans (Cert.KernelIdeal.Gen.V_main_arg2 m c).symm)

theorem a3 {c : Dev Cert.KernelIdeal.nD} (h : Same m m' c) :
    Cert.ReferenceIdeal.Gen.V m' c Cert.ReferenceIdeal.main_arg3 = Cert.KernelIdeal.Gen.V m c Cert.KernelIdeal.main_arg3 :=
  (Cert.ReferenceIdeal.Gen.V_main_arg3 m' c).trans (h.2.2.2.1.trans (Cert.KernelIdeal.Gen.V_main_arg3 m c).symm)

theorem a4 {c : Dev Cert.KernelIdeal.nD} (h : Same m m' c) :
    Cert.ReferenceIdeal.Gen.V m' c Cert.ReferenceIdeal.main_arg4 = Cert.KernelIdeal.Gen.V m c Cert.KernelIdeal.main_arg4 :=
  (Cert.ReferenceIdeal.Gen.V_main_arg4 m' c).trans (h.2.2.2.2.1.trans (Cert.KernelIdeal.Gen.V_main_arg4 m c).symm)

theorem a5 {c : Dev Cert.KernelIdeal.nD} (h : Same m m' c) :
    Cert.ReferenceIdeal.Gen.V m' c Cert.ReferenceIdeal.main_arg5 = Cert.KernelIdeal.Gen.V m c Cert.KernelIdeal.main_arg5 :=
  (Cert.ReferenceIdeal.Gen.V_main_arg5 m' c).trans (h.2.2.2.2.2.trans (Cert.KernelIdeal.Gen.V_main_arg5 m c).symm)

/-- The arrays of codes are equal, -/
theorem T6_eq {c : Dev Cert.KernelIdeal.nD} (h : Same m m' c) : Cert.ReferenceIdeal.Hand.T6 m' c = Cert.KernelIdeal.Hand.T6 m c :=
  funext fun y => congrFun (congrFun (codes_congr (v0 h) (v1 h) (a2 h) (a3 h) (a4 h) (a5 h)) (y 0)) (y 1)

/-- and the arrays of scales. -/
theorem T7_eq {c : Dev Cert.KernelIdeal.nD} (h : Same m m' c) : Cert.ReferenceIdeal.Hand.T7 m' c = Cert.KernelIdeal.Hand.T7 m c :=
  funext fun y => congrFun (congrFun (scales_congr (v0 h) (v1 h) (a2 h) (a3 h) (a4 h) (a5 h)) (y 0)) (y 1)

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.ReferenceIdeal.Value
public import proofs.«01_k».proof.Proof.KernelFrame
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The kernel and the reference, launched on the same arguments, leave the same two results. -/
theorem algebraic : Cert.algebraic_KernelIdeal_ReferenceIdeal (hKernelIdeal := Cert.KernelIdeal.Gen.facts) (hReferenceIdeal := Cert.ReferenceIdeal.Gen.facts) :=
  fun m ρ m' ρ' _ same => ⟨fun c => Cert.KernelIdeal.Hand.T6 m c, fun c => Cert.KernelIdeal.Hand.T7 m c, Cert.KernelIdeal.Hand.run_vals m ρ,
    (θ_run Cert.ReferenceIdeal.defs _ _).mono (fun r h c =>
      ⟨(h c).1.trans ((Cert.ReferenceIdeal.Hand.final6 m' c).trans (Cert.Agree.T6_eq (same c))),
        (h c).2.1.trans ((Cert.ReferenceIdeal.Hand.final7 m' c).trans (Cert.Agree.T7_eq (same c))), (h c).2.2⟩)
      (Cert.ReferenceIdeal.Value.run_blocks m' ρ')⟩

theorem claim : Cert.Claim := ⟨Cert.Kernel.Gen.facts, Cert.KernelIdeal.Gen.facts, Cert.ReferenceIdeal.Gen.facts, Cert.Reference.Gen.facts,
  fun m ρ _ => Cert.Kernel.Hand.frame m ρ,
  fun m ρ _ => Cert.KernelIdeal.Hand.frame m ρ,
  fun m ρ _ => Cert.ReferenceIdeal.Gen.frame m ρ,
  fun m ρ _ => Cert.Reference.Gen.frame m ρ,
  trivial,
  IdealRules.named_const.statement Cert.ReferenceIdeal.κ "ln2" .f32 0x3F317218#32 _ rfl,
  algebraic⟩

end Cert.Proof

end
